-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)) (v8 : (c : Dev Cert.KernelIdeal.nD) → Buf (Elt Ideal) ((c.tc : Thread Cert.KernelIdeal.nD Cert.KernelIdeal.τ).loc Cert.KernelIdeal.main_v0_8)) (v9 : (c : Dev Cert.KernelIdeal.nD) → Buf (Elt Ideal) ((c.tc : Thread Cert.KernelIdeal.nD Cert.KernelIdeal.τ).loc Cert.KernelIdeal.main_v0_9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_v0_8) = v8 c
          ∧ r.2.mem ((c.tc : Thread Cert.KernelIdeal.nD Cert.KernelIdeal.τ).loc Cert.KernelIdeal.main_v0_9) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_v67) = v3 c
          ∧ r.2.mem ((c.tc : Thread Cert.ReferenceIdeal.nD Cert.ReferenceIdeal.τ).loc Cert.ReferenceIdeal.main_v68) = v4 c
          ∧ r.2.mem ((c.tc : Thread Cert.ReferenceIdeal.nD Cert.ReferenceIdeal.τ).loc Cert.ReferenceIdeal.main_v69) = v5 c
          ∧ r.2.mem ((c.tc : Thread Cert.ReferenceIdeal.nD Cert.ReferenceIdeal.τ).loc Cert.ReferenceIdeal.main_v70) = v6 c
          ∧ r.2.mem ((c.tc : Thread Cert.ReferenceIdeal.nD Cert.ReferenceIdeal.τ).loc Cert.ReferenceIdeal.main_v71) = v7 c
          ∧ r.2.mem ((c.tc : Thread Cert.ReferenceIdeal.nD Cert.ReferenceIdeal.τ).loc Cert.ReferenceIdeal.main_v72) = v8 c
          ∧ r.2.mem ((c.tc : Thread Cert.ReferenceIdeal.nD Cert.ReferenceIdeal.τ).loc Cert.ReferenceIdeal.main_v73) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v45) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v15)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v32) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)) (v3 : (c : Dev Cert.Kernel5Ideal.nD) → Buf (Elt Ideal) ((c.tc : Thread Cert.Kernel5Ideal.nD Cert.Kernel5Ideal.τ).loc Cert.Kernel5Ideal.main_v3_3)) (v4 : (c : Dev Cert.Kernel5Ideal.nD) → Buf (Elt Ideal) ((c.tc : Thread Cert.Kernel5Ideal.nD Cert.Kernel5Ideal.τ).loc Cert.Kernel5Ideal.main_v3_4)) (v5 : (c : Dev Cert.Kernel5Ideal.nD) → Buf (Elt Ideal) ((c.tc : Thread Cert.Kernel5Ideal.nD Cert.Kernel5Ideal.τ).loc Cert.Kernel5Ideal.main_v3_5)) (v6 : (c : Dev Cert.Kernel5Ideal.nD) → Buf (Elt Ideal) ((c.tc : Thread Cert.Kernel5Ideal.nD Cert.Kernel5Ideal.τ).loc Cert.Kernel5Ideal.main_v3_6)) (v7 : (c : Dev Cert.Kernel5Ideal.nD) → Buf (Elt Ideal) ((c.tc : Thread Cert.Kernel5Ideal.nD Cert.Kernel5Ideal.τ).loc Cert.Kernel5Ideal.main_v3_7)) (v8 : (c : Dev Cert.Kernel5Ideal.nD) → Buf (Elt Ideal) ((c.tc : Thread Cert.Kernel5Ideal.nD Cert.Kernel5Ideal.τ).loc Cert.Kernel5Ideal.main_v3_8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_v3_3) = v3 c
          ∧ r.2.mem ((c.tc : Thread Cert.Kernel5Ideal.nD Cert.Kernel5Ideal.τ).loc Cert.Kernel5Ideal.main_v3_4) = v4 c
          ∧ r.2.mem ((c.tc : Thread Cert.Kernel5Ideal.nD Cert.Kernel5Ideal.τ).loc Cert.Kernel5Ideal.main_v3_5) = v5 c
          ∧ r.2.mem ((c.tc : Thread Cert.Kernel5Ideal.nD Cert.Kernel5Ideal.τ).loc Cert.Kernel5Ideal.main_v3_6) = v6 c
          ∧ r.2.mem ((c.tc : Thread Cert.Kernel5Ideal.nD Cert.Kernel5Ideal.τ).loc Cert.Kernel5Ideal.main_v3_7) = v7 c
          ∧ r.2.mem ((c.tc : Thread Cert.Kernel5Ideal.nD Cert.Kernel5Ideal.τ).loc Cert.Kernel5Ideal.main_v3_8) = v8 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v62) = v0 c
          ∧ r.2.mem ((c.tc : Thread Cert.Reference5Ideal.nD Cert.Reference5Ideal.τ).loc Cert.Reference5Ideal.main_v63) = v1 c
          ∧ r.2.mem ((c.tc : Thread Cert.Reference5Ideal.nD Cert.Reference5Ideal.τ).loc Cert.Reference5Ideal.main_v64) = v2 c
          ∧ r.2.mem ((c.tc : Thread Cert.Reference5Ideal.nD Cert.Reference5Ideal.τ).loc Cert.Reference5Ideal.main_v65) = v3 c
          ∧ r.2.mem ((c.tc : Thread Cert.Reference5Ideal.nD Cert.Reference5Ideal.τ).loc Cert.Reference5Ideal.main_v66) = v4 c
          ∧ r.2.mem ((c.tc : Thread Cert.Reference5Ideal.nD Cert.Reference5Ideal.τ).loc Cert.Reference5Ideal.main_v67) = v5 c
          ∧ r.2.mem ((c.tc : Thread Cert.Reference5Ideal.nD Cert.Reference5Ideal.τ).loc Cert.Reference5Ideal.main_v68) = v6 c
          ∧ r.2.mem ((c.tc : Thread Cert.Reference5Ideal.nD Cert.Reference5Ideal.τ).loc Cert.Reference5Ideal.main_v69) = v7 c
          ∧ r.2.mem ((c.tc : Thread Cert.Reference5Ideal.nD Cert.Reference5Ideal.τ).loc Cert.Reference5Ideal.main_v70) = v8 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S2x8192x1024 : Shape := ⟨3, ![2, 8192, 1024]⟩
abbrev S2x1024x3072 : Shape := ⟨3, ![2, 1024, 3072]⟩
abbrev S2x3x1024 : Shape := ⟨3, ![2, 3, 1024]⟩
abbrev S2x1024x1024 : Shape := ⟨3, ![2, 1024, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1024x1024 : Shape := ⟨2, ![1024, 1024]⟩
abbrev S1024x2816 : Shape := ⟨2, ![1024, 2816]⟩
abbrev S2816x1024 : Shape := ⟨2, ![2816, 1024]⟩
abbrev S1024x3072 : Shape := ⟨2, ![1024, 3072]⟩
abbrev S1x1024x1024 : Shape := ⟨3, ![1, 1024, 1024]⟩
abbrev S1x8x1024 : Shape := ⟨3, ![1, 8, 1024]⟩
abbrev S1x1024x3072 : Shape := ⟨3, ![1, 1024, 3072]⟩
abbrev S1x64x1024 : Shape := ⟨3, ![1, 64, 1024]⟩
abbrev S1x64x2816 : Shape := ⟨3, ![1, 64, 2816]⟩
abbrev S1x176x1024 : Shape := ⟨3, ![1, 176, 1024]⟩
abbrev S1x64x3072 : Shape := ⟨3, ![1, 64, 3072]⟩
abbrev S64x1024 : Shape := ⟨2, ![64, 1024]⟩
abbrev S64x2816 : Shape := ⟨2, ![64, 2816]⟩
abbrev S176x1024 : Shape := ⟨2, ![176, 1024]⟩
abbrev S64x3072 : Shape := ⟨2, ![64, 3072]⟩
abbrev S1x1024 : Shape := ⟨2, ![1, 1024]⟩
abbrev S1x3x1024 : Shape := ⟨3, ![1, 3, 1024]⟩
abbrev S3x1024 : Shape := ⟨2, ![3, 1024]⟩
abbrev S8x1024 : Shape := ⟨2, ![8, 1024]⟩
abbrev S8 : Shape := ⟨1, ![8]⟩
abbrev S8x1 : Shape := ⟨2, ![8, 1]⟩
abbrev S1024 : Shape := ⟨1, ![1024]⟩
abbrev S1024x1 : Shape := ⟨2, ![1024, 1]⟩
abbrev S1040x1024 : Shape := ⟨2, ![1040, 1024]⟩

abbrev nBuf : Space → Nat
  | .hbm => 19
  | .vmem => 48
  | .smem => 0
  | _ => 0

abbrev bufTy : (tb : Table) → Fin (tcTables nBuf tb) → BufTy
  | .hbm, ⟨0, _⟩ => ⟨S2x8192x1024, .f32⟩
  | .hbm, ⟨1, _⟩ => ⟨S2x1024x3072, .f32⟩
  | .hbm, ⟨2, _⟩ => ⟨S2x3x1024, .f32⟩
  | .hbm, ⟨3, _⟩ => ⟨S2x1024x1024, .f32⟩
  | .hbm, ⟨4, _⟩ => ⟨S2x1024x1024, .f32⟩
  | .hbm, ⟨5, _⟩ => ⟨S4x1024, .f32⟩
  | .hbm, ⟨6, _⟩ => ⟨S4x1024x2816, .f32⟩
  | .hbm, ⟨7, _⟩ => ⟨S4x1024x2816, .f32⟩
  | .hbm, ⟨8, _⟩ => ⟨S4x2816x1024, .f32⟩
  | .hbm, ⟨9, _⟩ => ⟨S2x8192x1024, .bf16⟩
  | .hbm, ⟨10, _⟩ => ⟨S1024x1024, .bf16⟩
  | .hbm, ⟨11, _⟩ => ⟨S1024x2816, .bf16⟩
  | .hbm, ⟨12, _⟩ => ⟨S1024x2816, .bf16⟩
  | .hbm, ⟨13, _⟩ => ⟨S2816x1024, .bf16⟩
  | .hbm, ⟨14, _⟩ => ⟨S1024x1024, .bf16⟩
  | .hbm, ⟨15, _⟩ => ⟨S1024x2816, .bf16⟩
  | .hbm, ⟨16, _⟩ => ⟨S1024x2816, .bf16⟩
  | .hbm, ⟨17, _⟩ => ⟨S2816x1024, .bf16⟩
  | .hbm, ⟨18, _⟩ => ⟨S1024x3072, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S4x1024, .f32⟩
  | .local _ .vmem, ⟨7, _⟩ => ⟨S1x1024x3072, .f32⟩
  | .local _ .vmem, ⟨8, _⟩ => ⟨S2x3x1024, .f32⟩
  | .local _ .vmem, ⟨9, _⟩ => ⟨S1x64x1024, .f32⟩
  | .local _ .vmem, ⟨10, _⟩ => ⟨S1x64x1024, .f32⟩
  | .local _ .vmem, ⟨11, _⟩ => ⟨S1x64x2816, .f32⟩
  | .local _ .vmem, ⟨12, _⟩ => ⟨S1x64x2816, .f32⟩
  | .local _ .vmem, ⟨13, _⟩ => ⟨S1x64x2816, .f32⟩
  | .local _ .vmem, ⟨14, _⟩ => ⟨S1x64x2816, .f32⟩
  | .local _ .vmem, ⟨15, _⟩ => ⟨S1x176x1024, .f32⟩
  | .local _ .vmem, ⟨16, _⟩ => ⟨S1x176x1024, .f32⟩
  | .local _ .vmem, ⟨17, _⟩ => ⟨S1x64x1024, .f32⟩
  | .local _ .vmem, ⟨18, _⟩ => ⟨S1x64x1024, .f32⟩
  | .local _ .vmem, ⟨19, _⟩ => ⟨S1x64x2816, .f32⟩
  | .local _ .vmem, ⟨20, _⟩ => ⟨S1x64x2816, .f32⟩
  | .local _ .vmem, ⟨21, _⟩ => ⟨S1x64x2816, .f32⟩
  | .local _ .vmem, ⟨22, _⟩ => ⟨S1x64x2816, .f32⟩
  | .local _ .vmem, ⟨23, _⟩ => ⟨S1x176x1024, .f32⟩
  | .local _ .vmem, ⟨24, _⟩ => ⟨S1x176x1024, .f32⟩
  | .local _ .vmem, ⟨25, _⟩ => ⟨S1x64x3072, .f32⟩
  | .local _ .vmem, ⟨26, _⟩ => ⟨S1x64x3072, .f32⟩
  | .local _ .vmem, ⟨27, _⟩ => ⟨S1x1024x1024, .bf16⟩
  | .local _ .vmem, ⟨28, _⟩ => ⟨S1x1024x1024, .bf16⟩
  | .local _ .vmem, ⟨29, _⟩ => ⟨S64x1024, .bf16⟩
  | .local _ .vmem, ⟨30, _⟩ => ⟨S64x1024, .bf16⟩
  | .local _ .vmem, ⟨31, _⟩ => ⟨S64x2816, .bf16⟩
  | .local _ .vmem, ⟨32, _⟩ => ⟨S64x2816, .bf16⟩
  | .local _ .vmem, ⟨33, _⟩ => ⟨S64x2816, .bf16⟩
  | .local _ .vmem, ⟨34, _⟩ => ⟨S64x2816, .bf16⟩
  | .local _ .vmem, ⟨35, _⟩ => ⟨S176x1024, .bf16⟩
  | .local _ .vmem, ⟨36, _⟩ => ⟨S176x1024, .bf16⟩
  | .local _ .vmem, ⟨37, _⟩ => ⟨S64x1024, .bf16⟩
  | .local _ .vmem, ⟨38, _⟩ => ⟨S64x1024, .bf16⟩
  | .local _ .vmem, ⟨39, _⟩ => ⟨S64x2816, .bf16⟩
  | .local _ .vmem, ⟨40, _⟩ => ⟨S64x2816, .bf16⟩
  | .local _ .vmem, ⟨41, _⟩ => ⟨S64x2816, .bf16⟩
  | .local _ .vmem, ⟨42, _⟩ => ⟨S64x2816, .bf16⟩
  | .local _ .vmem, ⟨43, _⟩ => ⟨S176x1024, .bf16⟩
  | .local _ .vmem, ⟨44, _⟩ => ⟨S176x1024, .bf16⟩
  | .local _ .vmem, ⟨45, _⟩ => ⟨S64x3072, .bf16⟩
  | .local _ .vmem, ⟨46, _⟩ => ⟨S64x3072, .bf16⟩
  | .local _ .vmem, ⟨47, _⟩ => ⟨S1024x3072, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev main_v0_8 : Ref sig .tc := ⟨.hbm, 17, rfl⟩
abbrev main_v0_9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_stg20_0 : Ref sig .tc := ⟨.vmem, 37, rfl⟩
abbrev cc0_stg20_1 : Ref sig .tc := ⟨.vmem, 38, rfl⟩
abbrev cc0_stg21_0 : Ref sig .tc := ⟨.vmem, 39, rfl⟩
abbrev cc0_stg21_1 : Ref sig .tc := ⟨.vmem, 40, rfl⟩
abbrev cc0_stg22_0 : Ref sig .tc := ⟨.vmem, 41, rfl⟩
abbrev cc0_stg22_1 : Ref sig .tc := ⟨.vmem, 42, rfl⟩
abbrev cc0_stg23_0 : Ref sig .tc := ⟨.vmem, 43, rfl⟩
abbrev cc0_stg23_1 : Ref sig .tc := ⟨.vmem, 44, rfl⟩
abbrev cc0_stg24_0 : Ref sig .tc := ⟨.vmem, 45, rfl⟩
abbrev cc0_stg24_1 : Ref sig .tc := ⟨.vmem, 46, rfl⟩
abbrev cc0_scratch0 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36
abbrev cc0_sem20_0 : DmaSem sig := 37
abbrev cc0_sem20_1 : DmaSem sig := 38
abbrev cc0_sem21_0 : DmaSem sig := 39
abbrev cc0_sem21_1 : DmaSem sig := 40
abbrev cc0_sem22_0 : DmaSem sig := 41
abbrev cc0_sem22_1 : DmaSem sig := 42
abbrev cc0_sem23_0 : DmaSem sig := 43
abbrev cc0_sem23_1 : DmaSem sig := 44
abbrev cc0_sem24_0 : DmaSem sig := 45
abbrev cc0_sem24_1 : DmaSem sig := 46

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  let c0_i32_7 : BitVec 32 := 0#32
  ![c0_i32_5.toNat, v18.toNat, c0_i32_6.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  let c0_i32_7 : BitVec 32 := 0#32
  ![c0_i32_5.toNat, v18.toNat, c0_i32_6.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  let c0_i32_7 : BitVec 32 := 0#32
  ![c0_i32_5.toNat, v18.toNat, c0_i32_6.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  let c0_i32_7 : BitVec 32 := 0#32
  ![c0_i32_5.toNat, v18.toNat, c0_i32_6.toNat]

def cc0_transform_10 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  let c0_i32_7 : BitVec 32 := 0#32
  ![c0_i32_5.toNat, v18.toNat, c0_i32_6.toNat]

def cc0_transform_11 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let c0_i32_6 : BitVec 32 := 0#32
  let c0_i32_7 : BitVec 32 := 0#32
  ![c1_i32_5.toNat, v18.toNat, c0_i32_6.toNat]

def cc0_transform_12 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let c0_i32_6 : BitVec 32 := 0#32
  let c0_i32_7 : BitVec 32 := 0#32
  ![c1_i32_5.toNat, v18.toNat, c0_i32_6.toNat]

def cc0_transform_13 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let c0_i32_6 : BitVec 32 := 0#32
  let c0_i32_7 : BitVec 32 := 0#32
  ![c1_i32_5.toNat, v18.toNat, c0_i32_6.toNat]

def cc0_transform_14 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let c0_i32_6 : BitVec 32 := 0#32
  let c0_i32_7 : BitVec 32 := 0#32
  ![c1_i32_5.toNat, v18.toNat, c0_i32_6.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_17 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_18 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_19 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_20 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_21 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_22 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_23 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_24 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x64x2816 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x64x2816 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x176x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x64x3072 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S64x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S64x2816 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S64x2816 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S176x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S64x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S64x2816 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S64x2816 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S176x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S64x3072 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]
-- ==== ReferenceIdeal.lean ====
abbrev S2x8192x1024 : Shape := ⟨3, ![2, 8192, 1024]⟩
abbrev S2x1024x3072 : Shape := ⟨3, ![2, 1024, 3072]⟩
abbrev S2x3x1024 : Shape := ⟨3, ![2, 3, 1024]⟩
abbrev S2x1024x1024 : Shape := ⟨3, ![2, 1024, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1x3x1024 : Shape := ⟨3, ![1, 3, 1024]⟩
abbrev S3x1024 : Shape := ⟨2, ![3, 1024]⟩
abbrev S1x1024x3072 : Shape := ⟨3, ![1, 1024, 3072]⟩
abbrev S1024x3072 : Shape := ⟨2, ![1024, 3072]⟩
abbrev S2x8192x3072 : Shape := ⟨3, ![2, 8192, 3072]⟩
abbrev S2x8194x1024 : Shape := ⟨3, ![2, 8194, 1024]⟩
abbrev S1x1024x1024 : Shape := ⟨3, ![1, 1024, 1024]⟩
abbrev S1024x1024 : Shape := ⟨2, ![1024, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩

abbrev nBuf : Space → Nat
  | .hbm => 88
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1024x3072, .f32⟩
  | .hbm, ⟨2, _⟩ => ⟨S2x3x1024, .f32⟩
  | .hbm, ⟨3, _⟩ => ⟨S2x1024x1024, .f32⟩
  | .hbm, ⟨4, _⟩ => ⟨S2x1024x1024, .f32⟩
  | .hbm, ⟨5, _⟩ => ⟨S4x1024, .f32⟩
  | .hbm, ⟨6, _⟩ => ⟨S4x1024x2816, .f32⟩
  | .hbm, ⟨7, _⟩ => ⟨S4x1024x2816, .f32⟩
  | .hbm, ⟨8, _⟩ => ⟨S4x2816x1024, .f32⟩
  | .hbm, ⟨9, _⟩ => ⟨S1x1024, .f32⟩
  | .hbm, ⟨10, _⟩ => ⟨S1024, .f32⟩
  | .hbm, ⟨11, _⟩ => ⟨S2x8192x1024, .f32⟩
  | .hbm, ⟨12, _⟩ => ⟨S_, .f32⟩
  | .hbm, ⟨13, _⟩ => ⟨S2x8192, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S2x8192x1, .f32⟩
  | .hbm, ⟨22, _⟩ => ⟨S2x8192x1024, .f32⟩
  | .hbm, ⟨23, _⟩ => ⟨S2x8192x1024, .f32⟩
  | .hbm, ⟨24, _⟩ => ⟨S1x1x1024, .f32⟩
  | .hbm, ⟨25, _⟩ => ⟨S2x8192x1024, .f32⟩
  | .hbm, ⟨26, _⟩ => ⟨S2x8192x1024, .f32⟩
  | .hbm, ⟨27, _⟩ => ⟨S1x3x1024, .f32⟩
  | .hbm, ⟨28, _⟩ => ⟨S3x1024, .f32⟩
  | .hbm, ⟨29, _⟩ => ⟨S1x1024x3072, .f32⟩
  | .hbm, ⟨30, _⟩ => ⟨S1024x3072, .f32⟩
  | .hbm, ⟨31, _⟩ => ⟨S2x8192x3072, .f32⟩
  | .hbm, ⟨32, _⟩ => ⟨S2x8192x1024, .f32⟩
  | .hbm, ⟨33, _⟩ => ⟨S2x8192x1024, .f32⟩
  | .hbm, ⟨34, _⟩ => ⟨S2x8192x1024, .f32⟩
  | .hbm, ⟨35, _⟩ => ⟨S2x8192x1024, .f32⟩
  | .hbm, ⟨36, _⟩ => ⟨S_, .i32⟩
  | .hbm, ⟨37, _⟩ => ⟨S_, .f32⟩
  | .hbm, ⟨38, _⟩ => ⟨S2x8194x1024, .f32⟩
  | .hbm, ⟨39, _⟩ => ⟨S1x1024, .f32⟩
  | .hbm, ⟨40, _⟩ => ⟨S1024, .f32⟩
  | .hbm, ⟨41, _⟩ => ⟨S2x8192x1024, .f32⟩
  | .hbm, ⟨42, _⟩ => ⟨S1x1x1024, .f32⟩
  | .hbm, ⟨43, _⟩ => ⟨S2x8192x1024, .f32⟩
  | .hbm, ⟨44, _⟩ => ⟨S2x8192x1024, .f32⟩
  | .hbm, ⟨45, _⟩ => ⟨S1x1024, .f32⟩
  | .hbm, ⟨46, _⟩ => ⟨S1024, .f32⟩
  | .hbm, ⟨47, _⟩ => ⟨S2x8192x1024, .f32⟩
  | .hbm, ⟨48, _⟩ => ⟨S1x1x1024, .f32⟩
  | .hbm, ⟨49, _⟩ => ⟨S2x8192x1024, .f32⟩
  | .hbm, ⟨50, _⟩ => ⟨S2x8192x1024, .f32⟩
  | .hbm, ⟨51, _⟩ => ⟨S2x8192x1024, .f32⟩
  | .hbm, ⟨52, _⟩ => ⟨S1x1024, .f32⟩
  | .hbm, ⟨53, _⟩ => ⟨S1024, .f32⟩
  | .hbm, ⟨54, _⟩ => ⟨S2x8192x1024, .f32⟩
  | .hbm, ⟨55, _⟩ => ⟨S1x1x1024, .f32⟩
  | .hbm, ⟨56, _⟩ => ⟨S2x8192x1024, .f32⟩
  | .hbm, ⟨57, _⟩ => ⟨S2x8192x1024, .f32⟩
  | .hbm, ⟨58, _⟩ => ⟨S2x8192x1024, .f32⟩
  | .hbm, ⟨59, _⟩ => ⟨S1x1024x1024, .f32⟩
  | .hbm, ⟨60, _⟩ => ⟨S1024x1024, .f32⟩
  | .hbm, ⟨61, _⟩ => ⟨S1x1024x2816, .f32⟩
  | .hbm, ⟨62, _⟩ => ⟨S1024x2816, .f32⟩
  | .hbm, ⟨63, _⟩ => ⟨S1x1024x2816, .f32⟩
  | .hbm, ⟨64, _⟩ => ⟨S1024x2816, .f32⟩
  | .hbm, ⟨65, _⟩ => ⟨S1x2816x1024, .f32⟩
  | .hbm, ⟨66, _⟩ => ⟨S2816x1024, .f32⟩
  | .hbm, ⟨67, _⟩ => ⟨S1x1024x1024, .f32⟩
  | .hbm, ⟨68, _⟩ => ⟨S1024x1024, .f32⟩
  | .hbm, ⟨69, _⟩ => ⟨S1x1024x2816, .f32⟩
  | .hbm, ⟨70, _⟩ => ⟨S1024x2816, .f32⟩
  | .hbm, ⟨71, _⟩ => ⟨S1x1024x2816, .f32⟩
  | .hbm, ⟨72, _⟩ => ⟨S1024x2816, .f32⟩
  | .hbm, ⟨73, _⟩ => ⟨S1x2816x1024, .f32⟩
  | .hbm, ⟨74, _⟩ => ⟨S2816x1024, .f32⟩
  | .hbm, ⟨75, _⟩ => ⟨S1x1024x3072, .f32⟩
  | .hbm, ⟨76, _⟩ => ⟨S1024x3072, .f32⟩
  | .hbm, ⟨77, _⟩ => ⟨S2x8192x1024, .f32⟩
  | .hbm, ⟨78, _⟩ => ⟨S2x8192x1024, .bf16⟩
  | .hbm, ⟨79, _⟩ => ⟨S1024x1024, .bf16⟩
  | .hbm, ⟨80, _⟩ => ⟨S1024x2816, .bf16⟩
  | .hbm, ⟨81, _⟩ => ⟨S1024x2816, .bf16⟩
  | .hbm, ⟨82, _⟩ => ⟨S2816x1024, .bf16⟩
  | .hbm, ⟨83, _⟩ => ⟨S1024x1024, .bf16⟩
  | .hbm, ⟨84, _⟩ => ⟨S1024x2816, .bf16⟩
  | .hbm, ⟨85, _⟩ => ⟨S1024x2816, .bf16⟩
  | .hbm, ⟨86, _⟩ => ⟨S2816x1024, .bf16⟩
  | .hbm, ⟨87, _⟩ => ⟨S1024x3072, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c : Ref sig .tc := ⟨.hbm, 36, rfl⟩
abbrev main_call0_v0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x1024x1024 : Shape := ⟨3, ![2, 1024, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1024 : Shape := ⟨1, ![1024]⟩
abbrev S1x1024x1024 : Shape := ⟨3, ![1, 1024, 1024]⟩
abbrev S1024x1024 : Shape := ⟨2, ![1024, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S1024x1 : Shape := ⟨2, ![1024, 1]⟩

abbrev nBuf : Space → Nat
  | .hbm => 24
  | .vmem => 14
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .bf16⟩
  | .hbm, ⟨2, _⟩ => ⟨S2x1024x1024, .f32⟩
  | .hbm, ⟨3, _⟩ => ⟨S4x1024, .f32⟩
  | .hbm, ⟨4, _⟩ => ⟨S4x1024x2816, .f32⟩
  | .hbm, ⟨5, _⟩ => ⟨S4x1024x2816, .f32⟩
  | .hbm, ⟨6, _⟩ => ⟨S4x2816x1024, .f32⟩
  | .hbm, ⟨7, _⟩ => ⟨S1024, .f32⟩
  | .hbm, ⟨8, _⟩ => ⟨S1x1024x1024, .f32⟩
  | .hbm, ⟨9, _⟩ => ⟨S1024x1024, .f32⟩
  | .hbm, ⟨10, _⟩ => ⟨S1x1024x2816, .f32⟩
  | .hbm, ⟨11, _⟩ => ⟨S1024x2816, .f32⟩
  | .hbm, ⟨12, _⟩ => ⟨S1x1024x2816, .f32⟩
  | .hbm, ⟨13, _⟩ => ⟨S1024x2816, .f32⟩
  | .hbm, ⟨14, _⟩ => ⟨S1x2816x1024, .f32⟩
  | .hbm, ⟨15, _⟩ => ⟨S2816x1024, .f32⟩
  | .hbm, ⟨16, _⟩ => ⟨S1024x1024, .bf16⟩
  | .hbm, ⟨17, _⟩ => ⟨S1024x2816, .bf16⟩
  | .hbm, ⟨18, _⟩ => ⟨S1024x2816, .bf16⟩
  | .hbm, ⟨19, _⟩ => ⟨S2816x1024, .bf16⟩
  | .hbm, ⟨20, _⟩ => ⟨S16384x1024, .f32⟩
  | .hbm, ⟨21, _⟩ => ⟨S16384x1024, .bf16⟩
  | .hbm, ⟨22, _⟩ => ⟨S1x1024, .f32⟩
  | .hbm, ⟨23, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S4x1024, .f32⟩
  | .local _ .vmem, ⟨5, _⟩ => ⟨S1024x1024, .bf16⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x2816, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S2x8192x1024 : Shape := ⟨3, ![2, 8192, 1024]⟩
abbrev S2x1024x1024 : Shape := ⟨3, ![2, 1024, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1024 : Shape := ⟨1, ![1024]⟩
abbrev S1x1024x1024 : Shape := ⟨3, ![1, 1024, 1024]⟩
abbrev S1024x1024 : Shape := ⟨2, ![1024, 1024]⟩
abbrev S1x1024 : Shape := ⟨2, ![1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S2x8192x2816 : Shape := ⟨3, ![2, 8192, 2816]⟩
abbrev S1x2816x1024 : Shape := ⟨3, ![1, 2816, 1024]⟩
abbrev S2816x1024 : Shape := ⟨2, ![2816, 1024]⟩
abbrev S16384x1024 : Shape := ⟨2, ![16384, 1024]⟩

abbrev nBuf : Space → Nat
  | .hbm => 68
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .bf16⟩
  | .hbm, ⟨2, _⟩ => ⟨S2x1024x1024, .f32⟩
  | .hbm, ⟨3, _⟩ => ⟨S4x1024, .f32⟩
  | .hbm, ⟨4, _⟩ => ⟨S4x1024x2816, .f32⟩
  | .hbm, ⟨5, _⟩ => ⟨S4x1024x2816, .f32⟩
  | .hbm, ⟨6, _⟩ => ⟨S4x2816x1024, .f32⟩
  | .hbm, ⟨7, _⟩ => ⟨S1024, .f32⟩
  | .hbm, ⟨8, _⟩ => ⟨S2x8192x1024, .f32⟩
  | .hbm, ⟨9, _⟩ => ⟨S1x1024x1024, .f32⟩
  | .hbm, ⟨10, _⟩ => ⟨S1024x1024, .f32⟩
  | .hbm, ⟨11, _⟩ => ⟨S2x8192x1024, .f32⟩
  | .hbm, ⟨12, _⟩ => ⟨S2x8192x1024, .f32⟩
  | .hbm, ⟨13, _⟩ => ⟨S1x1024, .f32⟩
  | .hbm, ⟨14, _⟩ => ⟨S1024, .f32⟩
  | .hbm, ⟨15, _⟩ => ⟨S2x8192x1024, .f32⟩
  | .hbm, ⟨16, _⟩ => ⟨S_, .f32⟩
  | .hbm, ⟨17, _⟩ => ⟨S2x8192, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S2x8192x1, .f32⟩
  | .hbm, ⟨26, _⟩ => ⟨S2x8192x1024, .f32⟩
  | .hbm, ⟨27, _⟩ => ⟨S2x8192x1024, .f32⟩
  | .hbm, ⟨28, _⟩ => ⟨S1x1x1024, .f32⟩
  | .hbm, ⟨29, _⟩ => ⟨S2x8192x1024, .f32⟩
  | .hbm, ⟨30, _⟩ => ⟨S2x8192x1024, .f32⟩
  | .hbm, ⟨31, _⟩ => ⟨S1x1024x2816, .f32⟩
  | .hbm, ⟨32, _⟩ => ⟨S1024x2816, .f32⟩
  | .hbm, ⟨33, _⟩ => ⟨S2x8192x2816, .f32⟩
  | .hbm, ⟨34, _⟩ => ⟨S1x1024x2816, .f32⟩
  | .hbm, ⟨35, _⟩ => ⟨S1024x2816, .f32⟩
  | .hbm, ⟨36, _⟩ => ⟨S2x8192x2816, .f32⟩
  | .hbm, ⟨37, _⟩ => ⟨S2x8192x2816, .f32⟩
  | .hbm, ⟨38, _⟩ => ⟨S2x8192x2816, .f32⟩
  | .hbm, ⟨39, _⟩ => ⟨S_, .f32⟩
  | .hbm, ⟨40, _⟩ => ⟨S2x8192x2816, .f32⟩
  | .hbm, ⟨41, _⟩ => ⟨S2x8192x2816, .f32⟩
  | .hbm, ⟨42, _⟩ => ⟨S_, .f32⟩
  | .hbm, ⟨43, _⟩ => ⟨S2x8192x2816, .f32⟩
  | .hbm, ⟨44, _⟩ => ⟨S2x8192x2816, .f32⟩
  | .hbm, ⟨45, _⟩ => ⟨S2x8192x2816, .f32⟩
  | .hbm, ⟨46, _⟩ => ⟨S2x8192x2816, .f32⟩
  | .hbm, ⟨47, _⟩ => ⟨S1x2816x1024, .f32⟩
  | .hbm, ⟨48, _⟩ => ⟨S2816x1024, .f32⟩
  | .hbm, ⟨49, _⟩ => ⟨S2x8192x1024, .f32⟩
  | .hbm, ⟨50, _⟩ => ⟨S2x8192x1024, .f32⟩
  | .hbm, ⟨51, _⟩ => ⟨S2x8192x1024, .f32⟩
  | .hbm, ⟨52, _⟩ => ⟨S_, .f32⟩
  | .hbm, ⟨53, _⟩ => ⟨S2x8192, .f32⟩
  | .hbm, ⟨54, _⟩ => ⟨S2x8192x1, .f32⟩
  | .hbm, ⟨55, _⟩ => ⟨S_, .f32⟩
  | .hbm, ⟨56, _⟩ => ⟨S2x8192x1, .f32⟩
  | .hbm, ⟨57, _⟩ => ⟨S2x8192x1, .f32⟩
  | .hbm, ⟨58, _⟩ => ⟨S_, .f32⟩
  | .hbm, ⟨59, _⟩ => ⟨S2x8192x1, .f32⟩
  | .hbm, ⟨60, _⟩ => ⟨S2x8192x1, .f32⟩
  | .hbm, ⟨61, _⟩ => ⟨S2x8192x1, .f32⟩
  | .hbm, ⟨62, _⟩ => ⟨S2x8192x1024, .f32⟩
  | .hbm, ⟨63, _⟩ => ⟨S2x8192x1024, .f32⟩
  | .hbm, ⟨64, _⟩ => ⟨S1x1x1024, .f32⟩
  | .hbm, ⟨65, _⟩ => ⟨S2x8192x1024, .f32⟩
  | .hbm, ⟨66, _⟩ => ⟨S2x8192x1024, .f32⟩
  | .hbm, ⟨67, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_2 : Ref sig .tc := ⟨.hbm, 52, rfl⟩
abbrev main_v33 : Ref sig .tc := ⟨.hbm, 53, rfl⟩
abbrev main_v34 : Ref sig .tc := ⟨.hbm, 54, rfl⟩
abbrev main_cst_3 : Ref sig .tc := ⟨.hbm, 55, rfl⟩
abbrev main_v35 : Ref sig .tc := ⟨.hbm, 56, rfl⟩
abbrev main_v36 : Ref sig .tc := ⟨.hbm, 57, rfl⟩
abbrev main_cst_4 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩

abbrev nD : Nat := 1
abbrev τ : Topo := Topo.v7x

variable {F : FTy → Type} [FloatOps F]
-- ==== Kernel3.lean ====
abbrev S2x8192x1024 : Shape := ⟨3, ![2, 8192, 1024]⟩
abbrev S4x1024 : Shape := ⟨2, ![4, 1024]⟩
abbrev S272x256 : Shape := ⟨2, ![272, 256]⟩
abbrev S2x32x16x16x1024 : Shape := ⟨5, ![2, 32, 16, 16, 1024]⟩
abbrev S2x17x2x16x16x1024 : Shape := ⟨6, ![2, 17, 2, 16, 16, 1024]⟩
abbrev S1x32x4x16x1024 : Shape := ⟨5, ![1, 32, 4, 16, 1024]⟩
abbrev S1x17x2x4x16x1024 : Shape := ⟨6, ![1, 17, 2, 4, 16, 1024]⟩
abbrev S1x1024 : Shape := ⟨2, ![1, 1024]⟩
abbrev S1x32x1x8x1024 : Shape := ⟨5, ![1, 32, 1, 8, 1024]⟩
abbrev S32x8x1024 : Shape := ⟨3, ![32, 8, 1024]⟩
abbrev S256x1024 : Shape := ⟨2, ![256, 1024]⟩
abbrev S256 : Shape := ⟨1, ![256]⟩
abbrev S256x1 : Shape := ⟨2, ![256, 1]⟩
abbrev S272x1024 : Shape := ⟨2, ![272, 1024]⟩
abbrev S34x8x1024 : Shape := ⟨3, ![34, 8, 1024]⟩
abbrev S34x16x1024 : Shape := ⟨3, ![34, 16, 1024]⟩
abbrev S17x2x16x1024 : Shape := ⟨4, ![17, 2, 16, 1024]⟩
abbrev S1x17x2x1x16x1024 : Shape := ⟨6, ![1, 17, 2, 1, 16, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2x8192x1024, .f32⟩
  | .hbm, ⟨1, _⟩ => ⟨S4x1024, .f32⟩
  | .hbm, ⟨2, _⟩ => ⟨S272x256, .f32⟩
  | .hbm, ⟨3, _⟩ => ⟨S272x256, .bf16⟩
  | .hbm, ⟨4, _⟩ => ⟨S2x32x16x16x1024, .f32⟩
  | .hbm, ⟨5, _⟩ => ⟨S2x17x2x16x16x1024, .bf16⟩
  | .local _ .vmem, ⟨0, _⟩ => ⟨S1x32x4x16x1024, .f32⟩
  | .local _ .vmem, ⟨1, _⟩ => ⟨S1x32x4x16x1024, .f32⟩
  | .local _ .vmem, ⟨2, _⟩ => ⟨S4x1024, .f32⟩
  | .local _ .vmem, ⟨3, _⟩ => ⟨S272x256, .bf16⟩
  | .local _ .vmem, ⟨4, _⟩ => ⟨S1x17x2x4x16x1024, .bf16⟩
  | .local _ .vmem, ⟨5, _⟩ => ⟨S1x17x2x4x16x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, arg1.toNat, c0_i32_1.toNat, c0_i32_2.toNat]

abbrev stage0_0 : Fin 2 → Memref sig .tc .vmem S1x32x4x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S272x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x17x2x4x16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S2x8192x1024 : Shape := ⟨3, ![2, 8192, 1024]⟩
abbrev S4x1024 : Shape := ⟨2, ![4, 1024]⟩
abbrev S17x32 : Shape := ⟨2, ![17, 32]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x32x256x1024 : Shape := ⟨4, ![2, 32, 256, 1024]⟩
abbrev S2x256x1024x17 : Shape := ⟨4, ![2, 256, 1024, 17]⟩
abbrev S2x17x256x1024 : Shape := ⟨4, ![2, 17, 256, 1024]⟩
abbrev S2x17x1x256x1024 : Shape := ⟨5, ![2, 17, 1, 256, 1024]⟩
abbrev S2x17x2x256x1024 : Shape := ⟨5, ![2, 17, 2, 256, 1024]⟩
abbrev S2x17x2x16x16x1024 : Shape := ⟨6, ![2, 17, 2, 16, 16, 1024]⟩

abbrev nBuf : Space → Nat
  | .hbm => 32
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S4x1024, .f32⟩
  | .hbm, ⟨2, _⟩ => ⟨S17x32, .f32⟩
  | .hbm, ⟨3, _⟩ => ⟨S17x32, .f32⟩
  | .hbm, ⟨4, _⟩ => ⟨S1x1024, .f32⟩
  | .hbm, ⟨5, _⟩ => ⟨S1024, .f32⟩
  | .hbm, ⟨6, _⟩ => ⟨S2x8192x1024, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x1024, .f32⟩
  | .hbm, ⟨18, _⟩ => ⟨S2x8192x1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S2x32x256x1024, .f32⟩
  | .hbm, ⟨23, _⟩ => ⟨S2x256x1024x17, .f32⟩
  | .hbm, ⟨24, _⟩ => ⟨S2x17x256x1024, .f32⟩
  | .hbm, ⟨25, _⟩ => ⟨S2x256x1024x17, .f32⟩
  | .hbm, ⟨26, _⟩ => ⟨S2x17x256x1024, .f32⟩
  | .hbm, ⟨27, _⟩ => ⟨S2x17x1x256x1024, .f32⟩
  | .hbm, ⟨28, _⟩ => ⟨S2x17x1x256x1024, .f32⟩
  | .hbm, ⟨29, _⟩ => ⟨S2x17x2x256x1024, .f32⟩
  | .hbm, ⟨30, _⟩ => ⟨S2x17x2x16x16x1024, .f32⟩
  | .hbm, ⟨31, _⟩ => ⟨S2x17x2x16x16x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_cst_3 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Kernel4.lean ====
abbrev S2x8192x1024 : Shape := ⟨3, ![2, 8192, 1024]⟩
abbrev S2x1024x1024 : Shape := ⟨3, ![2, 1024, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1024 : Shape := ⟨1, ![1024]⟩
abbrev S1x1024x1024 : Shape := ⟨3, ![1, 1024, 1024]⟩
abbrev S1024x1024 : Shape := ⟨2, ![1024, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩

abbrev nBuf : Space → Nat
  | .hbm => 24
  | .vmem => 14
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .bf16⟩
  | .hbm, ⟨2, _⟩ => ⟨S2x1024x1024, .f32⟩
  | .hbm, ⟨3, _⟩ => ⟨S4x1024, .f32⟩
  | .hbm, ⟨4, _⟩ => ⟨S4x1024x2816, .f32⟩
  | .hbm, ⟨5, _⟩ => ⟨S4x1024x2816, .f32⟩
  | .hbm, ⟨6, _⟩ => ⟨S4x2816x1024, .f32⟩
  | .hbm, ⟨7, _⟩ => ⟨S1024, .f32⟩
  | .hbm, ⟨8, _⟩ => ⟨S1x1024x1024, .f32⟩
  | .hbm, ⟨9, _⟩ => ⟨S1024x1024, .f32⟩
  | .hbm, ⟨10, _⟩ => ⟨S1x1024x2816, .f32⟩
  | .hbm, ⟨11, _⟩ => ⟨S1024x2816, .f32⟩
  | .hbm, ⟨12, _⟩ => ⟨S1x1024x2816, .f32⟩
  | .hbm, ⟨13, _⟩ => ⟨S1024x2816, .f32⟩
  | .hbm, ⟨14, _⟩ => ⟨S1x2816x1024, .f32⟩
  | .hbm, ⟨15, _⟩ => ⟨S2816x1024, .f32⟩
  | .hbm, ⟨16, _⟩ => ⟨S1024x1024, .bf16⟩
  | .hbm, ⟨17, _⟩ => ⟨S1024x2816, .bf16⟩
  | .hbm, ⟨18, _⟩ => ⟨S1024x2816, .bf16⟩
  | .hbm, ⟨19, _⟩ => ⟨S2816x1024, .bf16⟩
  | .hbm, ⟨20, _⟩ => ⟨S16384x1024, .f32⟩
  | .hbm, ⟨21, _⟩ => ⟨S16384x1024, .bf16⟩
  | .hbm, ⟨22, _⟩ => ⟨S1x1024, .f32⟩
  | .hbm, ⟨23, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S4x1024, .f32⟩
  | .local _ .vmem, ⟨5, _⟩ => ⟨S1024x1024, .bf16⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x2816, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S2x8192x1024 : Shape := ⟨3, ![2, 8192, 1024]⟩
abbrev S2x1024x1024 : Shape := ⟨3, ![2, 1024, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1024 : Shape := ⟨1, ![1024]⟩
abbrev S1x1024x1024 : Shape := ⟨3, ![1, 1024, 1024]⟩
abbrev S1024x1024 : Shape := ⟨2, ![1024, 1024]⟩
abbrev S1x1024 : Shape := ⟨2, ![1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S2x8192x2816 : Shape := ⟨3, ![2, 8192, 2816]⟩
abbrev S1x2816x1024 : Shape := ⟨3, ![1, 2816, 1024]⟩
abbrev S2816x1024 : Shape := ⟨2, ![2816, 1024]⟩
abbrev S16384x1024 : Shape := ⟨2, ![16384, 1024]⟩

abbrev nBuf : Space → Nat
  | .hbm => 52
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .bf16⟩
  | .hbm, ⟨2, _⟩ => ⟨S2x1024x1024, .f32⟩
  | .hbm, ⟨3, _⟩ => ⟨S4x1024, .f32⟩
  | .hbm, ⟨4, _⟩ => ⟨S4x1024x2816, .f32⟩
  | .hbm, ⟨5, _⟩ => ⟨S4x1024x2816, .f32⟩
  | .hbm, ⟨6, _⟩ => ⟨S4x2816x1024, .f32⟩
  | .hbm, ⟨7, _⟩ => ⟨S1024, .f32⟩
  | .hbm, ⟨8, _⟩ => ⟨S2x8192x1024, .f32⟩
  | .hbm, ⟨9, _⟩ => ⟨S1x1024x1024, .f32⟩
  | .hbm, ⟨10, _⟩ => ⟨S1024x1024, .f32⟩
  | .hbm, ⟨11, _⟩ => ⟨S2x8192x1024, .f32⟩
  | .hbm, ⟨12, _⟩ => ⟨S2x8192x1024, .f32⟩
  | .hbm, ⟨13, _⟩ => ⟨S1x1024, .f32⟩
  | .hbm, ⟨14, _⟩ => ⟨S1024, .f32⟩
  | .hbm, ⟨15, _⟩ => ⟨S2x8192x1024, .f32⟩
  | .hbm, ⟨16, _⟩ => ⟨S_, .f32⟩
  | .hbm, ⟨17, _⟩ => ⟨S2x8192, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S2x8192x1, .f32⟩
  | .hbm, ⟨26, _⟩ => ⟨S2x8192x1024, .f32⟩
  | .hbm, ⟨27, _⟩ => ⟨S2x8192x1024, .f32⟩
  | .hbm, ⟨28, _⟩ => ⟨S1x1x1024, .f32⟩
  | .hbm, ⟨29, _⟩ => ⟨S2x8192x1024, .f32⟩
  | .hbm, ⟨30, _⟩ => ⟨S2x8192x1024, .f32⟩
  | .hbm, ⟨31, _⟩ => ⟨S1x1024x2816, .f32⟩
  | .hbm, ⟨32, _⟩ => ⟨S1024x2816, .f32⟩
  | .hbm, ⟨33, _⟩ => ⟨S2x8192x2816, .f32⟩
  | .hbm, ⟨34, _⟩ => ⟨S1x1024x2816, .f32⟩
  | .hbm, ⟨35, _⟩ => ⟨S1024x2816, .f32⟩
  | .hbm, ⟨36, _⟩ => ⟨S2x8192x2816, .f32⟩
  | .hbm, ⟨37, _⟩ => ⟨S2x8192x2816, .f32⟩
  | .hbm, ⟨38, _⟩ => ⟨S2x8192x2816, .f32⟩
  | .hbm, ⟨39, _⟩ => ⟨S_, .f32⟩
  | .hbm, ⟨40, _⟩ => ⟨S2x8192x2816, .f32⟩
  | .hbm, ⟨41, _⟩ => ⟨S2x8192x2816, .f32⟩
  | .hbm, ⟨42, _⟩ => ⟨S_, .f32⟩
  | .hbm, ⟨43, _⟩ => ⟨S2x8192x2816, .f32⟩
  | .hbm, ⟨44, _⟩ => ⟨S2x8192x2816, .f32⟩
  | .hbm, ⟨45, _⟩ => ⟨S2x8192x2816, .f32⟩
  | .hbm, ⟨46, _⟩ => ⟨S2x8192x2816, .f32⟩
  | .hbm, ⟨47, _⟩ => ⟨S1x2816x1024, .f32⟩
  | .hbm, ⟨48, _⟩ => ⟨S2816x1024, .f32⟩
  | .hbm, ⟨49, _⟩ => ⟨S2x8192x1024, .f32⟩
  | .hbm, ⟨50, _⟩ => ⟨S2x8192x1024, .f32⟩
  | .hbm, ⟨51, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]
-- ==== Kernel5.lean ====
abbrev S2x8192x1024 : Shape := ⟨3, ![2, 8192, 1024]⟩
abbrev S2x1024x3072 : Shape := ⟨3, ![2, 1024, 3072]⟩
abbrev S2x3x1024 : Shape := ⟨3, ![2, 3, 1024]⟩
abbrev S2x1024x1024 : Shape := ⟨3, ![2, 1024, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1x1024x3072 : Shape := ⟨3, ![1, 1024, 3072]⟩
abbrev S1024x3072 : Shape := ⟨2, ![1024, 3072]⟩
abbrev S1024x1024 : Shape := ⟨2, ![1024, 1024]⟩
abbrev S1024x2816 : Shape := ⟨2, ![1024, 2816]⟩
abbrev S2816x1024 : Shape := ⟨2, ![2816, 1024]⟩
abbrev S1x1024x1024 : Shape := ⟨3, ![1, 1024, 1024]⟩
abbrev S1x8x1024 : Shape := ⟨3, ![1, 8, 1024]⟩
abbrev S1x64x1024 : Shape := ⟨3, ![1, 64, 1024]⟩
abbrev S1x64x2816 : Shape := ⟨3, ![1, 64, 2816]⟩
abbrev S1x176x1024 : Shape := ⟨3, ![1, 176, 1024]⟩
abbrev S64x1024 : Shape := ⟨2, ![64, 1024]⟩
abbrev S64x2816 : Shape := ⟨2, ![64, 2816]⟩
abbrev S176x1024 : Shape := ⟨2, ![176, 1024]⟩
abbrev S1x1024 : Shape := ⟨2, ![1, 1024]⟩
abbrev S1x3x1024 : Shape := ⟨3, ![1, 3, 1024]⟩
abbrev S3x1024 : Shape := ⟨2, ![3, 1024]⟩
abbrev S8x1024 : Shape := ⟨2, ![8, 1024]⟩
abbrev S8 : Shape := ⟨1, ![8]⟩
abbrev S8x1 : Shape := ⟨2, ![8, 1]⟩
abbrev S1024 : Shape := ⟨1, ![1024]⟩
abbrev S1024x1 : Shape := ⟨2, ![1024, 1]⟩
abbrev S1040x1024 : Shape := ⟨2, ![1040, 1024]⟩

abbrev nBuf : Space → Nat
  | .hbm => 21
  | .vmem => 43
  | .smem => 0
  | _ => 0

abbrev bufTy : (tb : Table) → Fin (tcTables nBuf tb) → BufTy
  | .hbm, ⟨0, _⟩ => ⟨S2x8192x1024, .f32⟩
  | .hbm, ⟨1, _⟩ => ⟨S2x1024x3072, .f32⟩
  | .hbm, ⟨2, _⟩ => ⟨S2x3x1024, .f32⟩
  | .hbm, ⟨3, _⟩ => ⟨S2x1024x1024, .f32⟩
  | .hbm, ⟨4, _⟩ => ⟨S2x1024x1024, .f32⟩
  | .hbm, ⟨5, _⟩ => ⟨S4x1024, .f32⟩
  | .hbm, ⟨6, _⟩ => ⟨S4x1024x2816, .f32⟩
  | .hbm, ⟨7, _⟩ => ⟨S4x1024x2816, .f32⟩
  | .hbm, ⟨8, _⟩ => ⟨S4x2816x1024, .f32⟩
  | .hbm, ⟨9, _⟩ => ⟨S1x1024x3072, .f32⟩
  | .hbm, ⟨10, _⟩ => ⟨S1024x3072, .f32⟩
  | .hbm, ⟨11, _⟩ => ⟨S1024x3072, .bf16⟩
  | .hbm, ⟨12, _⟩ => ⟨S2x8192x1024, .bf16⟩
  | .hbm, ⟨13, _⟩ => ⟨S1024x1024, .bf16⟩
  | .hbm, ⟨14, _⟩ => ⟨S1024x2816, .bf16⟩
  | .hbm, ⟨15, _⟩ => ⟨S1024x2816, .bf16⟩
  | .hbm, ⟨16, _⟩ => ⟨S2816x1024, .bf16⟩
  | .hbm, ⟨17, _⟩ => ⟨S1024x1024, .bf16⟩
  | .hbm, ⟨18, _⟩ => ⟨S1024x2816, .bf16⟩
  | .hbm, ⟨19, _⟩ => ⟨S1024x2816, .bf16⟩
  | .hbm, ⟨20, _⟩ => ⟨S2816x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S4x1024, .f32⟩
  | .local _ .vmem, ⟨7, _⟩ => ⟨S1024x3072, .bf16⟩
  | .local _ .vmem, ⟨8, _⟩ => ⟨S2x3x1024, .f32⟩
  | .local _ .vmem, ⟨9, _⟩ => ⟨S1x64x1024, .f32⟩
  | .local _ .vmem, ⟨10, _⟩ => ⟨S1x64x1024, .f32⟩
  | .local _ .vmem, ⟨11, _⟩ => ⟨S1x64x2816, .f32⟩
  | .local _ .vmem, ⟨12, _⟩ => ⟨S1x64x2816, .f32⟩
  | .local _ .vmem, ⟨13, _⟩ => ⟨S1x64x2816, .f32⟩
  | .local _ .vmem, ⟨14, _⟩ => ⟨S1x64x2816, .f32⟩
  | .local _ .vmem, ⟨15, _⟩ => ⟨S1x176x1024, .f32⟩
  | .local _ .vmem, ⟨16, _⟩ => ⟨S1x176x1024, .f32⟩
  | .local _ .vmem, ⟨17, _⟩ => ⟨S1x64x1024, .f32⟩
  | .local _ .vmem, ⟨18, _⟩ => ⟨S1x64x1024, .f32⟩
  | .local _ .vmem, ⟨19, _⟩ => ⟨S1x64x2816, .f32⟩
  | .local _ .vmem, ⟨20, _⟩ => ⟨S1x64x2816, .f32⟩
  | .local _ .vmem, ⟨21, _⟩ => ⟨S1x64x2816, .f32⟩
  | .local _ .vmem, ⟨22, _⟩ => ⟨S1x64x2816, .f32⟩
  | .local _ .vmem, ⟨23, _⟩ => ⟨S1x176x1024, .f32⟩
  | .local _ .vmem, ⟨24, _⟩ => ⟨S1x176x1024, .f32⟩
  | .local _ .vmem, ⟨25, _⟩ => ⟨S1x1024x1024, .bf16⟩
  | .local _ .vmem, ⟨26, _⟩ => ⟨S1x1024x1024, .bf16⟩
  | .local _ .vmem, ⟨27, _⟩ => ⟨S64x1024, .bf16⟩
  | .local _ .vmem, ⟨28, _⟩ => ⟨S64x1024, .bf16⟩
  | .local _ .vmem, ⟨29, _⟩ => ⟨S64x2816, .bf16⟩
  | .local _ .vmem, ⟨30, _⟩ => ⟨S64x2816, .bf16⟩
  | .local _ .vmem, ⟨31, _⟩ => ⟨S64x2816, .bf16⟩
  | .local _ .vmem, ⟨32, _⟩ => ⟨S64x2816, .bf16⟩
  | .local _ .vmem, ⟨33, _⟩ => ⟨S176x1024, .bf16⟩
  | .local _ .vmem, ⟨34, _⟩ => ⟨S176x1024, .bf16⟩
  | .local _ .vmem, ⟨35, _⟩ => ⟨S64x1024, .bf16⟩
  | .local _ .vmem, ⟨36, _⟩ => ⟨S64x1024, .bf16⟩
  | .local _ .vmem, ⟨37, _⟩ => ⟨S64x2816, .bf16⟩
  | .local _ .vmem, ⟨38, _⟩ => ⟨S64x2816, .bf16⟩
  | .local _ .vmem, ⟨39, _⟩ => ⟨S64x2816, .bf16⟩
  | .local _ .vmem, ⟨40, _⟩ => ⟨S64x2816, .bf16⟩
  | .local _ .vmem, ⟨41, _⟩ => ⟨S176x1024, .bf16⟩
  | .local _ .vmem, ⟨42, _⟩ => ⟨S176x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev main_v3_4 : Ref sig .tc := ⟨.hbm, 16, rfl⟩
abbrev main_v3_5 : Ref sig .tc := ⟨.hbm, 17, rfl⟩
abbrev main_v3_6 : Ref sig .tc := ⟨.hbm, 18, rfl⟩
abbrev main_v3_7 : Ref sig .tc := ⟨.hbm, 19, rfl⟩
abbrev main_v3_8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_stg20_0 : Ref sig .tc := ⟨.vmem, 37, rfl⟩
abbrev cc0_stg20_1 : Ref sig .tc := ⟨.vmem, 38, rfl⟩
abbrev cc0_stg21_0 : Ref sig .tc := ⟨.vmem, 39, rfl⟩
abbrev cc0_stg21_1 : Ref sig .tc := ⟨.vmem, 40, rfl⟩
abbrev cc0_stg22_0 : Ref sig .tc := ⟨.vmem, 41, rfl⟩
abbrev cc0_stg22_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36
abbrev cc0_sem20_0 : DmaSem sig := 37
abbrev cc0_sem20_1 : DmaSem sig := 38
abbrev cc0_sem21_0 : DmaSem sig := 39
abbrev cc0_sem21_1 : DmaSem sig := 40
abbrev cc0_sem22_0 : DmaSem sig := 41
abbrev cc0_sem22_1 : DmaSem sig := 42

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let c0_i32_6 : BitVec 32 := 0#32
  let c0_i32_7 : BitVec 32 := 0#32
  ![c1_i32_5.toNat, v18.toNat, c0_i32_6.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c2_i32 : BitVec 32 := 2#32
  let c0_i32_5 : BitVec 32 := 0#32
  let c0_i32_6 : BitVec 32 := 0#32
  ![c2_i32.toNat, v18.toNat, c0_i32_5.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c2_i32 : BitVec 32 := 2#32
  let c0_i32_5 : BitVec 32 := 0#32
  let c0_i32_6 : BitVec 32 := 0#32
  ![c2_i32.toNat, v18.toNat, c0_i32_5.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c2_i32 : BitVec 32 := 2#32
  let c0_i32_5 : BitVec 32 := 0#32
  let c0_i32_6 : BitVec 32 := 0#32
  ![c2_i32.toNat, v18.toNat, c0_i32_5.toNat]

def cc0_transform_10 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let c0_i32_6 : BitVec 32 := 0#32
  let c0_i32_7 : BitVec 32 := 0#32
  ![c1_i32_5.toNat, v18.toNat, c0_i32_6.toNat]

def cc0_transform_11 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c3_i32 : BitVec 32 := 3#32
  let c0_i32_5 : BitVec 32 := 0#32
  let c0_i32_6 : BitVec 32 := 0#32
  ![c3_i32.toNat, v18.toNat, c0_i32_5.toNat]

def cc0_transform_12 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c3_i32 : BitVec 32 := 3#32
  let c0_i32_5 : BitVec 32 := 0#32
  let c0_i32_6 : BitVec 32 := 0#32
  ![c3_i32.toNat, v18.toNat, c0_i32_5.toNat]

def cc0_transform_13 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c3_i32 : BitVec 32 := 3#32
  let c0_i32_5 : BitVec 32 := 0#32
  let c0_i32_6 : BitVec 32 := 0#32
  ![c3_i32.toNat, v18.toNat, c0_i32_5.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_16 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_17 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_18 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_19 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_20 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_21 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_22 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x64x2816 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x64x2816 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x176x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S64x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S64x2816 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S64x2816 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S176x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S64x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S64x2816 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S64x2816 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S176x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== Reference5Ideal.lean ====
abbrev S2x8192x1024 : Shape := ⟨3, ![2, 8192, 1024]⟩
abbrev S2x1024x3072 : Shape := ⟨3, ![2, 1024, 3072]⟩
abbrev S2x3x1024 : Shape := ⟨3, ![2, 3, 1024]⟩
abbrev S2x1024x1024 : Shape := ⟨3, ![2, 1024, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1x3x1024 : Shape := ⟨3, ![1, 3, 1024]⟩
abbrev S3x1024 : Shape := ⟨2, ![3, 1024]⟩
abbrev S1x1024x3072 : Shape := ⟨3, ![1, 1024, 3072]⟩
abbrev S1024x3072 : Shape := ⟨2, ![1024, 3072]⟩
abbrev S2x8192x3072 : Shape := ⟨3, ![2, 8192, 3072]⟩
abbrev S2x8194x1024 : Shape := ⟨3, ![2, 8194, 1024]⟩
abbrev S1x1024x1024 : Shape := ⟨3, ![1, 1024, 1024]⟩
abbrev S1024x1024 : Shape := ⟨2, ![1024, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩

abbrev nBuf : Space → Nat
  | .hbm => 85
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1024x3072, .f32⟩
  | .hbm, ⟨2, _⟩ => ⟨S2x3x1024, .f32⟩
  | .hbm, ⟨3, _⟩ => ⟨S2x1024x1024, .f32⟩
  | .hbm, ⟨4, _⟩ => ⟨S2x1024x1024, .f32⟩
  | .hbm, ⟨5, _⟩ => ⟨S4x1024, .f32⟩
  | .hbm, ⟨6, _⟩ => ⟨S4x1024x2816, .f32⟩
  | .hbm, ⟨7, _⟩ => ⟨S4x1024x2816, .f32⟩
  | .hbm, ⟨8, _⟩ => ⟨S4x2816x1024, .f32⟩
  | .hbm, ⟨9, _⟩ => ⟨S1x1024, .f32⟩
  | .hbm, ⟨10, _⟩ => ⟨S1024, .f32⟩
  | .hbm, ⟨11, _⟩ => ⟨S2x8192x1024, .f32⟩
  | .hbm, ⟨12, _⟩ => ⟨S_, .f32⟩
  | .hbm, ⟨13, _⟩ => ⟨S2x8192, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S2x8192x1, .f32⟩
  | .hbm, ⟨22, _⟩ => ⟨S2x8192x1024, .f32⟩
  | .hbm, ⟨23, _⟩ => ⟨S2x8192x1024, .f32⟩
  | .hbm, ⟨24, _⟩ => ⟨S1x1x1024, .f32⟩
  | .hbm, ⟨25, _⟩ => ⟨S2x8192x1024, .f32⟩
  | .hbm, ⟨26, _⟩ => ⟨S2x8192x1024, .f32⟩
  | .hbm, ⟨27, _⟩ => ⟨S1x3x1024, .f32⟩
  | .hbm, ⟨28, _⟩ => ⟨S3x1024, .f32⟩
  | .hbm, ⟨29, _⟩ => ⟨S1x1024x3072, .f32⟩
  | .hbm, ⟨30, _⟩ => ⟨S1024x3072, .f32⟩
  | .hbm, ⟨31, _⟩ => ⟨S2x8192x3072, .f32⟩
  | .hbm, ⟨32, _⟩ => ⟨S2x8192x1024, .f32⟩
  | .hbm, ⟨33, _⟩ => ⟨S2x8192x1024, .f32⟩
  | .hbm, ⟨34, _⟩ => ⟨S2x8192x1024, .f32⟩
  | .hbm, ⟨35, _⟩ => ⟨S2x8192x1024, .f32⟩
  | .hbm, ⟨36, _⟩ => ⟨S_, .i32⟩
  | .hbm, ⟨37, _⟩ => ⟨S_, .f32⟩
  | .hbm, ⟨38, _⟩ => ⟨S2x8194x1024, .f32⟩
  | .hbm, ⟨39, _⟩ => ⟨S1x1024, .f32⟩
  | .hbm, ⟨40, _⟩ => ⟨S1024, .f32⟩
  | .hbm, ⟨41, _⟩ => ⟨S2x8192x1024, .f32⟩
  | .hbm, ⟨42, _⟩ => ⟨S1x1x1024, .f32⟩
  | .hbm, ⟨43, _⟩ => ⟨S2x8192x1024, .f32⟩
  | .hbm, ⟨44, _⟩ => ⟨S2x8192x1024, .f32⟩
  | .hbm, ⟨45, _⟩ => ⟨S1x1024, .f32⟩
  | .hbm, ⟨46, _⟩ => ⟨S1024, .f32⟩
  | .hbm, ⟨47, _⟩ => ⟨S2x8192x1024, .f32⟩
  | .hbm, ⟨48, _⟩ => ⟨S1x1x1024, .f32⟩
  | .hbm, ⟨49, _⟩ => ⟨S2x8192x1024, .f32⟩
  | .hbm, ⟨50, _⟩ => ⟨S2x8192x1024, .f32⟩
  | .hbm, ⟨51, _⟩ => ⟨S2x8192x1024, .f32⟩
  | .hbm, ⟨52, _⟩ => ⟨S1x1024, .f32⟩
  | .hbm, ⟨53, _⟩ => ⟨S1024, .f32⟩
  | .hbm, ⟨54, _⟩ => ⟨S2x8192x1024, .f32⟩
  | .hbm, ⟨55, _⟩ => ⟨S1x1x1024, .f32⟩
  | .hbm, ⟨56, _⟩ => ⟨S2x8192x1024, .f32⟩
  | .hbm, ⟨57, _⟩ => ⟨S2x8192x1024, .f32⟩
  | .hbm, ⟨58, _⟩ => ⟨S2x8192x1024, .f32⟩
  | .hbm, ⟨59, _⟩ => ⟨S1x1024x1024, .f32⟩
  | .hbm, ⟨60, _⟩ => ⟨S1024x1024, .f32⟩
  | .hbm, ⟨61, _⟩ => ⟨S1x1024x2816, .f32⟩
  | .hbm, ⟨62, _⟩ => ⟨S1024x2816, .f32⟩
  | .hbm, ⟨63, _⟩ => ⟨S1x1024x2816, .f32⟩
  | .hbm, ⟨64, _⟩ => ⟨S1024x2816, .f32⟩
  | .hbm, ⟨65, _⟩ => ⟨S1x2816x1024, .f32⟩
  | .hbm, ⟨66, _⟩ => ⟨S2816x1024, .f32⟩
  | .hbm, ⟨67, _⟩ => ⟨S1x1024x1024, .f32⟩
  | .hbm, ⟨68, _⟩ => ⟨S1024x1024, .f32⟩
  | .hbm, ⟨69, _⟩ => ⟨S1x1024x2816, .f32⟩
  | .hbm, ⟨70, _⟩ => ⟨S1024x2816, .f32⟩
  | .hbm, ⟨71, _⟩ => ⟨S1x1024x2816, .f32⟩
  | .hbm, ⟨72, _⟩ => ⟨S1024x2816, .f32⟩
  | .hbm, ⟨73, _⟩ => ⟨S1x2816x1024, .f32⟩
  | .hbm, ⟨74, _⟩ => ⟨S2816x1024, .f32⟩
  | .hbm, ⟨75, _⟩ => ⟨S2x8192x1024, .f32⟩
  | .hbm, ⟨76, _⟩ => ⟨S2x8192x1024, .bf16⟩
  | .hbm, ⟨77, _⟩ => ⟨S1024x1024, .bf16⟩
  | .hbm, ⟨78, _⟩ => ⟨S1024x2816, .bf16⟩
  | .hbm, ⟨79, _⟩ => ⟨S1024x2816, .bf16⟩
  | .hbm, ⟨80, _⟩ => ⟨S2816x1024, .bf16⟩
  | .hbm, ⟨81, _⟩ => ⟨S1024x1024, .bf16⟩
  | .hbm, ⟨82, _⟩ => ⟨S1024x2816, .bf16⟩
  | .hbm, ⟨83, _⟩ => ⟨S1024x2816, .bf16⟩
  | .hbm, ⟨84, _⟩ => ⟨S2816x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c : Ref sig .tc := ⟨.hbm, 36, rfl⟩
abbrev main_call0_v0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩

abbrev nD : Nat := 1
abbrev τ : Topo := Topo.v7x

variable {F : FTy → Type} [FloatOps F]
-- ==== Proof.Frames.lean ====
/- The five plain programs run to the end and leave their arguments as they were; every semaphore ends at zero. -/
module

public import proofs.«01_k».proof.Defs
public import proofs.«01_k».proof.Proof.Gen.ReferenceIdeal
public import proofs.«01_k».proof.Proof.Gen.ReferenceIdeal.Run
public import proofs.«01_k».proof.Proof.Gen.Reference2Ideal
public import proofs.«01_k».proof.Proof.Gen.Reference2Ideal.Run
public import proofs.«01_k».proof.Proof.Gen.Reference3Ideal
public import proofs.«01_k».proof.Proof.Gen.Reference3Ideal.Run
public import proofs.«01_k».proof.Proof.Gen.Reference4Ideal
public import proofs.«01_k».proof.Proof.Gen.Reference4Ideal.Run
public import proofs.«01_k».proof.Proof.Gen.Reference5Ideal
public import proofs.«01_k».proof.Proof.Gen.Reference5Ideal.Run
public import Idealize.ShloMosaic.Lib.Claim

@[expose] public section

set_option maxRecDepth 16384

noncomputable section

open Idealize.ShloMosaic Idealize.ShloMosaic.TcCoe Idealize.SL.Sem

namespace Cert.Proof

/-- The plain conv-mixer program leaves its arguments and semaphores as they were. -/
theorem frame_conv_plain : Cert.quiescent_ReferenceIdeal := fun m ρ _ =>
  (θ_run Cert.ReferenceIdeal.defs _ _).mono (fun r h => ⟨fun c => (h c).2.2.2.2.2.2.2.2.2.2, sem_eq_zero_of_no_sems (by decide) r.2⟩)
    (Cert.ReferenceIdeal.Value.run m ρ)

/-- The plain feed-forward program leaves its arguments and semaphores as they were. -/
theorem frame_ffn_plain : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

/-- The plain Fourier program leaves its arguments and semaphores as they were. -/
theorem frame_fourier_plain : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

/-- The plain feed-forward program of layer 2 leaves its arguments and semaphores as they were. -/
theorem frame_ffn_mid_plain : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

/-- The plain conv-mixer program of layer 2 leaves its arguments and semaphores as they were. -/
theorem frame_conv_cast_plain : Cert.quiescent_Reference5Ideal := fun m ρ _ =>
  (θ_run Cert.Reference5Ideal.defs _ _).mono (fun r h => ⟨fun c => (h c).2.2.2.2.2.2.2.2.2, sem_eq_zero_of_no_sems (by decide) r.2⟩)
    (Cert.Reference5Ideal.Value.run m ρ)

end Cert.Proof

end
-- ==== Proof.Rows.lean ====
/- What the layer computes on one row of 1024 numbers, over the ideal numbers: the row functions that both sides of the
   claims are compared with. Nothing here mentions a program. -/
module

public import Idealize.ShloMosaic.PureOps.Ideal.Laws

@[expose] public section

noncomputable section

open Idealize.ShloMosaic

namespace Cert.Rows

/-- `v` divided by its root mean square (with the small constant under the root), times the gain `g`. -/
def rms (v g : Fin 1024 → EReal) (q : Fin 1024) : EReal :=
  v q * Ideal.rsqrt (Ideal.div (∑ k : Fin 1024, v k * v k) (Ideal.ofBits .f32 0x44800000#32) + Ideal.ofBits .f32 0x3727C5AC#32) * g q

/-- A row times a matrix. -/
def mat {n p : ℕ} (v : Fin n → EReal) (w : Fin n → Fin p → EReal) (q : Fin p) : EReal := ∑ k : Fin n, v k * w k q

/-- The residual row after the mixer's output projection. -/
def resid (h m : Fin 1024 → EReal) (wo : Fin 1024 → Fin 1024 → EReal) (q : Fin 1024) : EReal := h q + mat m wo q

/-- The gated hidden row: `silu (v·wg)` times `v·wu`. -/
def hidden (v : Fin 1024 → EReal) (wg wu : Fin 1024 → Fin 2816 → EReal) (f : Fin 2816) : EReal :=
  mat v wg f * Ideal.logistic (mat v wg f) * mat v wu f

/-- The whole second half of a layer on one row: output projection, residual, norm, gated hidden row, down projection, residual. -/
def ffn (h m : Fin 1024 → EReal) (wo : Fin 1024 → Fin 1024 → EReal) (g : Fin 1024 → EReal)
    (wg wu : Fin 1024 → Fin 2816 → EReal) (wd : Fin 2816 → Fin 1024 → EReal) (q : Fin 1024) : EReal :=
  resid h m wo q + mat (hidden (rms (resid h m wo) g) wg wu) wd q

/-- The gated row that is convolved: the middle third of the projected row times its last third. -/
def gated (v : Fin 1024 → EReal) (w : Fin 1024 → Fin 3072 → EReal) (q : Fin 1024) : EReal :=
  mat v w ⟨1024 + q.val, by omega⟩ * mat v w ⟨2048 + q.val, by omega⟩

/-- The first third of the projected row, the gate of the convolution's result. -/
def gate (v : Fin 1024 → EReal) (w : Fin 1024 → Fin 3072 → EReal) (q : Fin 1024) : EReal := mat v w ⟨q.val, by omega⟩

/-- A gate times the three-tap combination of an entry and its two neighbours. -/
def taps (b k₀ k₁ k₂ up md dn : EReal) : EReal := b * (k₀ * up + k₁ * md + k₂ * dn)

end Cert.Rows

end
-- ==== Proof.Blocks.lean ====
/- Facts about buffers and words that the calls share. -/
module

public import Idealize.ShloMosaic.Lib.Pipeline.ValueKit
public import Idealize.ShloMosaic.Lib.Pointwise

@[expose] public section

noncomputable section

open Idealize.ShloMosaic Idealize.ShloMosaic.TcCoe Idealize.SL.Sem

namespace Cert.Blocks

/-- A load of a whole buffer after any stores reads what those stores left. -/
theorem readCov_all {S : Shape} {e : EltTy} {sig : RefSig} {κ : Kind} {sp : Space} (v : View sig κ sp S e)
    (L : List (View.Piece (Elt Ideal) S e)) {off : Fin S.rank → ℕ} (h : off = fun _ => 0)
    (inb : ∀ a, off a + S.size a ≤ S.size a) :
    v.readCov L (Rect.unit off (no_index S.size) inb).toLoadRect = View.canon L := by
  rw [View.readCov_eq_canon']
  subst h
  funext j
  exact congrArg (View.canon L) (Rect.emb_whole_apply S j)

/-- The offsets of a load of the whole block. -/
theorem zero2 : (![0, 0] : Fin 2 → ℕ) = fun _ => 0 := funext fun a => by fin_cases a <;> rfl

/-- A choice between two numbers on a word being a constant. -/
theorem select_eq (i n : BitVec 32) (a b : EReal) : Scalar.select (Scalar.cmpi .eq i n) a b = if i = n then a else b := by
  by_cases h : i = n
  · subst h; simp [Scalar.select, Scalar.cmpi, IntOp.cmpi]
  · have : (i == n) = false := by simpa using h
    simp [Scalar.select, Scalar.cmpi, IntOp.cmpi, h, this]

/-- A word equals a small constant when the number does. -/
theorem word_eq (n k : ℕ) (hn : n < 8) (hk : k < 8) : (BitVec.ofNat 32 n = BitVec.ofNat 32 k) ↔ n = k := by
  constructor
  · intro h
    have := congrArg BitVec.toNat h
    simp only [BitVec.toNat_ofNat] at this
    omega
  · rintro rfl; rfl

end Cert.Blocks

end
-- ==== Proof.FfnBlock.lean ====
/- What one grid point of the feed-forward call computes. The body stores its residual block in two halves of 512 rows, the
   normalised block in two halves as well, and the gated hidden block in eleven pieces of 256 columns; read back, each is the
   row function of the block's rows, so the block written out is the layer's row function of each row. -/
module

public import proofs.«01_k».proof.Proof.Gen.Kernel2Ideal.Value
public import proofs.«01_k».proof.Proof.Rows
public import proofs.«01_k».proof.Proof.Blocks
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel2Ideal.Ffn

open Cert.Kernel2Ideal Cert.Kernel2Ideal.Gen Cert.Rows Cert.Blocks

/-- The residual block: every row's input plus its mixer row times the output projection. -/
def residBlk (h : Vec Ideal S1024x1024 .f32) (m wo : Vec Ideal S1024x1024 .bf16) : Vec Ideal S1024x1024 .f32 := fun y =>
  resid (fun k => h (ix2 (y 0) k)) (fun k => m (ix2 (y 0) k)) (fun k l => wo (ix2 k l)) (y 1)

/-- The normalised block: every residual row over its root mean square, times row 3 of the gains. -/
def normBlk (h : Vec Ideal S1024x1024 .f32) (m wo : Vec Ideal S1024x1024 .bf16) (g : Vec Ideal S4x1024 .f32) :
    Vec Ideal S1024x1024 .bf16 := fun y =>
  rms (resid (fun k => h (ix2 (y 0) k)) (fun k => m (ix2 (y 0) k)) (fun k l => wo (ix2 k l))) (fun k => g (ix2 3 k)) (y 1)

/-- The gated hidden block of a normalised block. -/
def hiddenBlk (hn : Vec Ideal S1024x1024 .bf16) (wg wu : Vec Ideal S1024x2816 .bf16) : Vec Ideal S1024x2816 .bf16 := fun y =>
  hidden (fun k => hn (ix2 (y 0) k)) (fun k l => wg (ix2 k l)) (fun k l => wu (ix2 k l)) (y 1)

/-- The two halves of the residual block, stored one after the other, are the residual of every row. -/
theorem resid_canon (h : Vec Ideal S1024x1024 .f32) (m wo : Vec Ideal S1024x1024 .bf16) :
    View.canon ([⟨Rect.unit ![512, 0] ![512, 1024] inb_S1024x1024_S512x1024_512_0,
         k0_pay4 (View.ld h (Rect.unit ![512, 0] ![512, 1024] inb_S1024x1024_S512x1024_512_0))
           (View.ld m (Rect.unit ![512, 0] ![512, 1024] inb_S1024x1024_S512x1024_512_0)) wo⟩,
       ⟨Rect.unit ![0, 0] ![512, 1024] inb_S1024x1024_S512x1024_0_0,
         k0_pay2 (View.ld h (Rect.unit ![0, 0] ![512, 1024] inb_S1024x1024_S512x1024_0_0))
           (View.ld m (Rect.unit ![0, 0] ![512, 1024] inb_S1024x1024_S512x1024_0_0)) wo⟩] : List (View.Piece (Elt Ideal) S1024x1024 .f32))
      = residBlk h m wo := by
  funext y
  canon_tiles x h
  all_goals (pointwise [k0_pay4, k0_pay2, residBlk, resid, mat]; blk_point [])

/-- The two halves of the normalised block are the norm of every residual row. -/
theorem norm_canon (h : Vec Ideal S1024x1024 .f32) (m wo : Vec Ideal S1024x1024 .bf16) (g : Vec Ideal S4x1024 .f32) :
    View.canon ([⟨Rect.unit ![512, 0] ![512, 1024] inb_S1024x1024_S512x1024_512_0,
         k0_pay5 (k0_pay4 (View.ld h (Rect.unit ![512, 0] ![512, 1024] inb_S1024x1024_S512x1024_512_0))
           (View.ld m (Rect.unit ![512, 0] ![512, 1024] inb_S1024x1024_S512x1024_512_0)) wo)
           (View.ld g (Rect.unit ![3, 0] ![1, 1024] inb_S4x1024_S1x1024_3_0))⟩,
       ⟨Rect.unit ![0, 0] ![512, 1024] inb_S1024x1024_S512x1024_0_0,
         k0_pay3 (View.ld h (Rect.unit ![0, 0] ![512, 1024] inb_S1024x1024_S512x1024_0_0))
           (View.ld m (Rect.unit ![0, 0] ![512, 1024] inb_S1024x1024_S512x1024_0_0)) wo
           (View.ld g (Rect.unit ![3, 0] ![1, 1024] inb_S4x1024_S1x1024_3_0))⟩] : List (View.Piece (Elt Ideal) S1024x1024 .bf16))
      = normBlk h m wo g := by
  funext y
  canon_tiles x h
  all_goals (pointwise [k0_pay5, k0_pay4, k0_pay3, k0_pay2, normBlk, rms, resid, mat]; blk_point [])

/-- The eleven pieces of the hidden block, 256 columns each, are the gated hidden row of every normalised row. -/
theorem hidden_canon (hn : Vec Ideal S1024x1024 .bf16) (wg wu : Vec Ideal S1024x2816 .bf16) :
    View.canon ([⟨Rect.unit ![0, 2560] ![1024, 256] inb_S1024x2816_S1024x256_0_2560, k0_pay22 hn (View.ld wg (Rect.unit ![0, 2560] ![1024, 256] inb_S1024x2816_S1024x256_0_2560)) hn (View.ld wu (Rect.unit ![0, 2560] ![1024, 256] inb_S1024x2816_S1024x256_0_2560))⟩,
       ⟨Rect.unit ![0, 2304] ![1024, 256] inb_S1024x2816_S1024x256_0_2304, k0_pay21 (k0_pay18 hn (View.ld wg (Rect.unit ![0, 2304] ![1024, 256] inb_S1024x2816_S1024x256_0_2304))) (k0_pay19 hn (View.ld wu (Rect.unit ![0, 2304] ![1024, 256] inb_S1024x2816_S1024x256_0_2304))) (k0_pay20 hn (View.ld wg (Rect.unit ![0, 2304] ![1024, 256] inb_S1024x2816_S1024x256_0_2304)))⟩,
       ⟨Rect.unit ![0, 2048] ![1024, 256] inb_S1024x2816_S1024x256_0_2048, k0_pay17 hn (View.ld wg (Rect.unit ![0, 2048] ![1024, 256] inb_S1024x2816_S1024x256_0_2048)) hn (View.ld wu (Rect.unit ![0, 2048] ![1024, 256] inb_S1024x2816_S1024x256_0_2048))⟩,
       ⟨Rect.unit ![0, 1792] ![1024, 256] inb_S1024x2816_S1024x256_0_1792, k0_pay16 (k0_pay15 hn (View.ld wg (Rect.unit ![0, 1792] ![1024, 256] inb_S1024x2816_S1024x256_0_1792))) hn (View.ld wu (Rect.unit ![0, 1792] ![1024, 256] inb_S1024x2816_S1024x256_0_1792))⟩,
       ⟨Rect.unit ![0, 1536] ![1024, 256] inb_S1024x2816_S1024x256_0_1536, k0_pay14 hn (View.ld wg (Rect.unit ![0, 1536] ![1024, 256] inb_S1024x2816_S1024x256_0_1536)) hn (View.ld wu (Rect.unit ![0, 1536] ![1024, 256] inb_S1024x2816_S1024x256_0_1536))⟩,
       ⟨Rect.unit ![0, 1280] ![1024, 256] inb_S1024x2816_S1024x256_0_1280, k0_pay13 (k0_pay12 hn (View.ld wg (Rect.unit ![0, 1280] ![1024, 256] inb_S1024x2816_S1024x256_0_1280))) hn (View.ld wu (Rect.unit ![0, 1280] ![1024, 256] inb_S1024x2816_S1024x256_0_1280))⟩,
       ⟨Rect.unit ![0, 1024] ![1024, 256] inb_S1024x2816_S1024x256_0_1024, k0_pay11 hn (View.ld wg (Rect.unit ![0, 1024] ![1024, 256] inb_S1024x2816_S1024x256_0_1024)) hn (View.ld wu (Rect.unit ![0, 1024] ![1024, 256] inb_S1024x2816_S1024x256_0_1024))⟩,
       ⟨Rect.unit ![0, 768] ![1024, 256] inb_S1024x2816_S1024x256_0_768, k0_pay10 hn (k0_pay9 (View.ld wg (Rect.unit ![0, 768] ![1024, 256] inb_S1024x2816_S1024x256_0_768))) hn (View.ld wu (Rect.unit ![0, 768] ![1024, 256] inb_S1024x2816_S1024x256_0_768))⟩,
       ⟨Rect.unit ![0, 512] ![1024, 256] inb_S1024x2816_S1024x256_0_512, k0_pay8 hn (View.ld wg (Rect.unit ![0, 512] ![1024, 256] inb_S1024x2816_S1024x256_0_512)) hn (View.ld wu (Rect.unit ![0, 512] ![1024, 256] inb_S1024x2816_S1024x256_0_512))⟩,
       ⟨Rect.unit ![0, 256] ![1024, 256] inb_S1024x2816_S1024x256_0_256, k0_pay7 hn (View.ld wg (Rect.unit ![0, 256] ![1024, 256] inb_S1024x2816_S1024x256_0_256)) hn (View.ld wu (Rect.unit ![0, 256] ![1024, 256] inb_S1024x2816_S1024x256_0_256))⟩,
       ⟨Rect.unit ![0, 0] ![1024, 256] inb_S1024x2816_S1024x256_0_0, k0_pay6 hn (View.ld wg (Rect.unit ![0, 0] ![1024, 256] inb_S1024x2816_S1024x256_0_0)) hn (View.ld wu (Rect.unit ![0, 0] ![1024, 256] inb_S1024x2816_S1024x256_0_0))⟩] : List (View.Piece (Elt Ideal) S1024x2816 .bf16))
      = hiddenBlk hn wg wu := by
  funext y
  canon_tiles x h
  all_goals (open_payloads; pointwise [hiddenBlk, Cert.Rows.hidden, mat]; blk_point [])

/-- The last store: residual plus the down projection, normalised with the final gains. -/
theorem out_pay (r : Vec Ideal S1024x1024 .f32) (hd : Vec Ideal S1024x2816 .bf16) (wd : Vec Ideal S2816x1024 .bf16)
    (gf : Vec Ideal S1x1024 .f32) (y : S1024x1024.Idx) :
    k0_pay1 (k0_pay23 r hd wd) (k0_pay24 gf) (k0_pay25 r hd wd) (FloatOps.ofBits FTy.f32 0x44800000#32) y
      = rms (fun q => r (ix2 (y 0) q) + mat (fun f => hd (ix2 (y 0) f)) (fun f q => wd (ix2 f q)) q) (fun q => gf (ix2 0 q)) (y 1) := by
  pointwise [k0_pay1, k0_pay23, k0_pay24, k0_pay25, rms, mat]

/-- The block as a function of the staged input blocks: the layer's row function of every row, then the final norm. -/
def outBlk (h : Vec Ideal S1024x1024 .f32) (m : Vec Ideal S1024x1024 .bf16) (g : Vec Ideal S4x1024 .f32)
    (wo : Vec Ideal S1024x1024 .bf16) (wg wu : Vec Ideal S1024x2816 .bf16) (wd : Vec Ideal S2816x1024 .bf16)
    (gf : Vec Ideal S1x1024 .f32) : Vec Ideal S1024x1024 .f32 := fun y =>
  rms (ffn (fun k => h (ix2 (y 0) k)) (fun k => m (ix2 (y 0) k)) (fun k l => wo (ix2 k l)) (fun k => g (ix2 3 k))
    (fun k l => wg (ix2 k l)) (fun k l => wu (ix2 k l)) (fun k l => wd (ix2 k l))) (fun q => gf (ix2 0 q)) (y 1)

/-- What the body leaves in the output's buffer at point `t`. -/
theorem block (m : (ℓ : Loc nD τ sig) → Buf (Elt Ideal) ℓ) (c : Dev nD) (t : Fin cfg0.N) :
    outsAt0 m c t = outBlk (iblk m c 0 t) (iblk m c 1 t) (iblk m c 2 t) (iblk m c 3 t) (iblk m c 4 t) (iblk m c 5 t)
      (iblk m c 6 t) (iblk m c 7 t) := by
  funext y
  unfold outsAt0
  frame_out
  simp only [readCov_all (S := S1024x1024) _ _ zero2, readCov_all (S := S1024x2816) _ _ zero2, resid_canon, norm_canon, hidden_canon]
  exact out_pay _ _ _ _ y

end Cert.Kernel2Ideal.Ffn

end
-- ==== Proof.FfnRef.lean ====
/- What the plain feed-forward program computes: each element of its result is the layer's row function, then the final norm,
   of the row it stands in. -/
module

public import proofs.«01_k».proof.Proof.Gen.Reference2Ideal.Read
public import proofs.«01_k».proof.Proof.Rows
public import Idealize.ShloMosaic.Lib.Pointwise

@[expose] public section

set_option maxRecDepth 16384

noncomputable section

open Idealize.ShloMosaic Idealize.ShloMosaic.TcCoe Idealize.SL.Sem

namespace Cert.Reference2Ideal.Ffn

open Cert.Reference2Ideal Cert.Reference2Ideal.Gen Cert.Reference2Ideal.Read Cert.Rows

variable (h : FVec Ideal S2x8192x1024 .f32) (m : FVec Ideal S2x8192x1024 .bf16) (wo : FVec Ideal S2x1024x1024 .f32)
  (g : FVec Ideal S4x1024 .f32) (wg wu : FVec Ideal S4x1024x2816 .f32) (wd : FVec Ideal S4x2816x1024 .f32)
  (gf : FVec Ideal S1024 .f32)

/-- The residual after the output projection. -/
theorem resid_ref (b : Fin 2) (s : Fin 8192) (q : Fin 1024) :
    val_main_v4 (F := Ideal) h m wo (ix3 b s q)
      = resid (fun k => h (ix3 b s k)) (fun k => m (ix3 b s k)) (fun k l => wo (ix3 1 k l)) q := by
  pointwise [val_main_v4, val_main_v3, val_main_v2, val_main_v1, val_main_v0, resid, mat]

/-- The normalised row. -/
theorem norm_ref (b : Fin 2) (s : Fin 8192) (q : Fin 1024) :
    val_main_v19 (F := Ideal) h m wo g (ix3 b s q)
      = rms (resid (fun k => h (ix3 b s k)) (fun k => m (ix3 b s k)) (fun k l => wo (ix3 1 k l))) (fun k => g (ix2 3 k)) q := by
  pointwise [val_main_v19, val_main_v18, val_main_v17, val_main_v16, val_main_v15, val_main_v14, val_main_v13, val_main_v12,
    val_main_cst_1, val_main_v11, val_main_v10, val_main_cst_0, val_main_v9, val_main_v8, val_main_cst, val_main_v7, val_main_v6,
    val_main_v5, resid_ref, rms]

/-- The gated hidden row. -/
theorem hidden_ref (b : Fin 2) (s : Fin 8192) (f : Fin 2816) :
    val_main_v27 (F := Ideal) h m wo g wg wu (ix3 b s f)
      = hidden (rms (resid (fun k => h (ix3 b s k)) (fun k => m (ix3 b s k)) (fun k l => wo (ix3 1 k l))) (fun k => g (ix2 3 k)))
          (fun k l => wg (ix3 3 k l)) (fun k l => wu (ix3 3 k l)) f := by
  pointwise [val_main_v27, val_main_v26, val_main_call0_v5, val_main_call0_v4, val_main_call0_cst_0, val_main_call0_v3, val_main_call0_v2,
    val_main_call0_cst, val_main_call0_v1, val_main_call0_v0, val_main_v25, val_main_v24, val_main_v23, val_main_v22, val_main_v21,
    val_main_v20, norm_ref, Cert.Rows.hidden, mat, Ideal.logistic]

/-- The layer's row before the final norm. -/
theorem ffn_ref (b : Fin 2) (s : Fin 8192) (q : Fin 1024) :
    val_main_v31 (F := Ideal) h m wo g wg wu wd (ix3 b s q)
      = ffn (fun k => h (ix3 b s k)) (fun k => m (ix3 b s k)) (fun k l => wo (ix3 1 k l)) (fun k => g (ix2 3 k))
          (fun k l => wg (ix3 3 k l)) (fun k l => wu (ix3 3 k l)) (fun k l => wd (ix3 3 k l)) q := by
  pointwise [val_main_v31, val_main_v30, val_main_v29, val_main_v28, hidden_ref, resid_ref, ffn, mat]

/-- The result, row `r` of 16384 being position `r % 8192` of sequence `r / 8192`. -/
theorem out_ref (r : Fin 16384) (q : Fin 1024) (b : Fin 2) (s : Fin 8192) (hb : (b : ℕ) = r / 8192) (hs : (s : ℕ) = r % 8192) :
    val_main_v45 (F := Ideal) h m wo g wg wu wd gf (ix2 r q)
      = rms (ffn (fun k => h (ix3 b s k)) (fun k => m (ix3 b s k)) (fun k l => wo (ix3 1 k l)) (fun k => g (ix2 3 k))
          (fun k l => wg (ix3 3 k l)) (fun k l => wu (ix3 3 k l)) (fun k l => wd (ix3 3 k l))) (fun k => gf (ix1 k)) q := by
  obtain rfl : b = ⟨r / 8192, Nat.div_lt_of_lt_mul r.isLt⟩ := Fin.ext hb
  obtain rfl : s = ⟨r % 8192, Nat.mod_lt _ (by decide)⟩ := Fin.ext hs
  pointwise [val_main_v45, val_main_v44, val_main_v43, val_main_v42, val_main_v41, val_main_v40, val_main_v39, val_main_v38, val_main_v37,
    val_main_cst_4, val_main_v36, val_main_v35, val_main_cst_3, val_main_v34, val_main_v33, val_main_cst_2, val_main_v32, ffn_ref, rms]

end Cert.Reference2Ideal.Ffn

end
-- ==== Proof.FfnArray.lean ====
/- The feed-forward call's result array. Each input block is read as rows and matrices of the call's arguments; the sixteen
   blocks tile the array; so the array is what the plain program computes. -/
module

public import proofs.«01_k».proof.Proof.FfnBlock
public import proofs.«01_k».proof.Proof.FfnRef
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen Cert.Rows

/-- Where each window's block sits at each of the sixteen points. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![t.val, 0] :=
  (by decide +kernel : ∀ t : Fin grid0.N, _)

variable (m : (ℓ : Loc nD τ sig) → Buf (Elt Ideal) ℓ) (c : Dev nD) (t : Fin cfg0.N)

/-- Row `p` of the input block at point `t` is row `t * 1024 + p` of the array, taken as rows of the two sequences. -/
theorem h_at (p : Fin 1024) (b : Fin 2) (s : Fin 8192) (hb : (b : ℕ) = t.val / 8) (hs : (s : ℕ) = t.val % 8 * 1024 + p) :
    (fun k : Fin 1024 => (show FVec Ideal S1024x1024 .f32 from iblk m c 0 t) (ix2 p k))
      = fun k => (show FVec Ideal S2x8192x1024 .f32 from m ((c : Thread nD τ).loc main_arg0)) (ix3 b s k) := by
  funext k
  blk_point [iblk, V, idx t]

/-- The mixer rows likewise. -/
theorem m_at (p : Fin 1024) (b : Fin 2) (s : Fin 8192) (hb : (b : ℕ) = t.val / 8) (hs : (s : ℕ) = t.val % 8 * 1024 + p) :
    (fun k : Fin 1024 => (show FVec Ideal S1024x1024 .bf16 from iblk m c 1 t) (ix2 p k))
      = fun k => (show FVec Ideal S2x8192x1024 .bf16 from m ((c : Thread nD τ).loc main_arg1)) (ix3 b s k) := by
  funext k
  blk_point [iblk, V, idx t]

/-- The gains of layer 3. -/
theorem g_at : (fun k : Fin 1024 => (show FVec Ideal S4x1024 .f32 from iblk m c 2 t) (ix2 3 k))
      = fun k => (show FVec Ideal S4x1024 .f32 from m ((c : Thread nD τ).loc main_arg3)) (ix2 3 k) := by
  funext k
  blk_point [iblk, V, idx t]

/-- The output projection, whole at every point: the second of the stacked matrices. -/
theorem wo_at : (fun k l : Fin 1024 => (show FVec Ideal S1024x1024 .bf16 from iblk m c 3 t) (ix2 k l))
      = fun k l => (show FVec Ideal S2x1024x1024 .f32 from m ((c : Thread nD τ).loc main_arg2)) (ix3 1 k l) := by
  funext k l
  blk_point [iblk, V, idx t]

/-- The gate projection of layer 3. -/
theorem wg_at : (fun (k : Fin 1024) (l : Fin 2816) => (show FVec Ideal S1024x2816 .bf16 from iblk m c 4 t) (ix2 k l))
      = fun k l => (show FVec Ideal S4x1024x2816 .f32 from m ((c : Thread nD τ).loc main_arg4)) (ix3 3 k l) := by
  funext k l
  blk_point [iblk, V, idx t]

/-- The up projection of layer 3. -/
theorem wu_at : (fun (k : Fin 1024) (l : Fin 2816) => (show FVec Ideal S1024x2816 .bf16 from iblk m c 5 t) (ix2 k l))
      = fun k l => (show FVec Ideal S4x1024x2816 .f32 from m ((c : Thread nD τ).loc main_arg5)) (ix3 3 k l) := by
  funext k l
  blk_point [iblk, V, idx t]

/-- The down projection of layer 3. -/
theorem wd_at : (fun (k : Fin 2816) (l : Fin 1024) => (show FVec Ideal S2816x1024 .bf16 from iblk m c 6 t) (ix2 k l))
      = fun k l => (show FVec Ideal S4x2816x1024 .f32 from m ((c : Thread nD τ).loc main_arg6)) (ix3 3 k l) := by
  funext k l
  blk_point [iblk, V, idx t]

/-- The final gains. -/
theorem gf_at : (fun k : Fin 1024 => (show FVec Ideal S1x1024 .f32 from iblk m c 7 t) (ix2 0 k))
      = fun k => (show FVec Ideal S1024 .f32 from m ((c : Thread nD τ).loc main_arg7)) (ix1 k) := by
  funext k
  blk_point [iblk, V, idx t]

/-- The plain program's result over this program's arguments. -/
abbrev plain : FVec Ideal S16384x1024 .f32 :=
  Cert.Reference2Ideal.Read.val_main_v45 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- Element `(p, q)` of the block of point `t` is the plain program's element at row `t * 1024 + p`. -/
theorem point (p q : Fin 1024) (r : Fin 16384) (hr : (r : ℕ) = t.val * 1024 + p) :
    outBlk (iblk m c 0 t) (iblk m c 1 t) (iblk m c 2 t) (iblk m c 3 t) (iblk m c 4 t) (iblk m c 5 t) (iblk m c 6 t) (iblk m c 7 t) (ix2 p q)
      = plain m c (ix2 r q) := by
  have ht : t.val < 16 := lt_of_lt_of_eq t.isLt N_0
  have hp : p.val < 1024 := p.isLt
  rw [plain, Cert.Reference2Ideal.Ffn.out_ref _ _ _ _ _ _ _ _ r q ⟨t.val / 8, by omega⟩ ⟨t.val % 8 * 1024 + p, by omega⟩
    (by show t.val / 8 = r.val / 8192; omega) (by show t.val % 8 * 1024 + p.val = r.val % 8192; omega)]
  have e0 := h_at m c t p ⟨t.val / 8, by omega⟩ ⟨t.val % 8 * 1024 + p, by omega⟩ rfl rfl
  have e1 := m_at m c t p ⟨t.val / 8, by omega⟩ ⟨t.val % 8 * 1024 + p, by omega⟩ rfl rfl
  unfold outBlk
  exact congrFun (congrArg₂ rms (by rw [← e0, ← e1, ← g_at m c t, ← wo_at m c t, ← wg_at m c t, ← wu_at m c t, ← wd_at m c t]; rfl)
    (gf_at m c t)) q

/-- The result array after the run is the plain program's result. -/
theorem final : (dats m 0 c).arrAt 8 cfg0.N = plain m c := by
  refine (dats m 0 c).arrAt_eq_of_covers 8 _ (by decide +kernel) fun t _ y => ?_
  blk_simp
  rw [after0_8, block]
  idx_vars y
  have ht : t.val < 16 := lt_of_lt_of_eq t.isLt N_0
  refine (point m c t y0 y1 ⟨t.val * 1024 + y0, by omega⟩ rfl).trans (congrArg _ ?_)
  blk_ext [idx t]

end Cert.Kernel2Ideal.Ffn

end
-- ==== Proof.FfnClaim.lean ====
/- The feed-forward call and the plain program end with equal results. -/
module

public import proofs.«01_k».proof.Defs
public import proofs.«01_k».proof.Proof.FfnArray
public import proofs.«01_k».proof.Proof.Gen.Kernel2Ideal
public import proofs.«01_k».proof.Proof.Gen.Reference2Ideal
public import Idealize.ShloMosaic.Lib.Claim

@[expose] public section

set_option maxRecDepth 16384

noncomputable section

open Idealize.ShloMosaic Idealize.ShloMosaic.TcCoe Idealize.SL.Sem

namespace Cert.Proof

/-- From agreeing arguments the call's result array and the plain program's are equal over the ideal numbers: both are the
    layer's row function, with the final norm, of every row. -/
theorem algebraic_ffn : Cert.algebraic_Kernel2Ideal_Reference2Ideal := by
  pair_intro
  · run_from Cert.Kernel2Ideal.Value.run_blocks m g
  · run_from Cert.Reference2Ideal.Value.run m' g'
    rw [Cert.Reference2Ideal.Read.val_main_v45_eq]
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]
    exact (Cert.Kernel2Ideal.Ffn.final m c).symm

end Cert.Proof

end
-- ==== Proof.ConvBlock.lean ====
/- What one grid point of the convolution call computes. -/
module

public import proofs.«01_k».proof.Proof.Gen.KernelIdeal.Value
public import proofs.«01_k».proof.Proof.Rows
public import proofs.«01_k».proof.Proof.Blocks
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Conv

open Cert.KernelIdeal Cert.KernelIdeal.Gen Cert.Rows Cert.Blocks

/-- The first eight rows of the stacked normed rows are the eight rows after the block. -/
theorem normed_next (g : Vec Ideal S1x1024 .f32) (N P : Vec Ideal S1x8x1024 .f32) (X : Vec Ideal S1x1024x1024 .f32)
    (j : Fin 8) (q : Fin 1024) :
    k0_pay16 g (k0_pay13 N) (k0_pay14 N) k0_pay15 P X (ix2 ⟨j.val, by omega⟩ q)
      = rms (fun k => N (ix3 0 j k)) (fun k => g (ix2 0 k)) q := by
  pointwise [k0_pay16, k0_pay13, k0_pay14, k0_pay15, rms]

/-- The next eight are the eight rows before the block. -/
theorem normed_prev (g : Vec Ideal S1x1024 .f32) (N P : Vec Ideal S1x8x1024 .f32) (X : Vec Ideal S1x1024x1024 .f32)
    (j : Fin 8) (q : Fin 1024) :
    k0_pay16 g (k0_pay13 N) (k0_pay14 N) k0_pay15 P X (ix2 ⟨8 + j.val, by omega⟩ q)
      = rms (fun k => P (ix3 0 j k)) (fun k => g (ix2 0 k)) q := by
  pointwise [k0_pay16, k0_pay13, k0_pay14, k0_pay15, rms]

/-- The rest are the block's own rows. -/
theorem normed_main (g : Vec Ideal S1x1024 .f32) (N P : Vec Ideal S1x8x1024 .f32) (X : Vec Ideal S1x1024x1024 .f32)
    (j : Fin 1024) (q : Fin 1024) :
    k0_pay16 g (k0_pay13 N) (k0_pay14 N) k0_pay15 P X (ix2 ⟨16 + j.val, by omega⟩ q)
      = rms (fun k => X (ix3 0 j k)) (fun k => g (ix2 0 k)) q := by
  pointwise [k0_pay16, k0_pay13, k0_pay14, k0_pay15, rms]
  rw [dif_neg (by omega), dif_neg (by omega)]
  simp only [show 16 + j.val - 8 - 8 = j.val by omega]

/-- The three-tap step on the stacked rows, entry by entry: the neighbour above row `r` of the block is the row before it,
    the block's first row taking the last of the eight rows before the block, or zero at the start of the sequence;
    likewise below. -/
theorem taps_at (i : BitVec 32) (kk : FVec Ideal S3x1024 .f32) (xn : FVec Ideal S1040x1024 .bf16) (c : FVec Ideal S1040x1024 .f32)
    (wv wb : Vec Ideal S1024x1024 .bf16) (r q : Fin 1024) (U : Fin 1040 → EReal)
    (hU : ∀ j, U j = c (ix2 j q) * mat (fun k => xn (ix2 j k)) (fun k l => wv (ix2 k l)) q) :
    k0_pay1 i kk xn c wv (constant S1040x1024 .f32 0x00000000#32) wb (ix3 0 r q)
      = taps (mat (fun k => xn (ix2 ⟨16 + r.val, by omega⟩ k)) (fun k l => wb (ix2 k l)) q) (kk (ix2 0 q)) (kk (ix2 1 q)) (kk (ix2 2 q))
          (if r.val = 0 then (if i = 0#32 then 0 else U ⟨15, by omega⟩) else U ⟨15 + r.val, by omega⟩)
          (U ⟨16 + r.val, by omega⟩)
          (if h : r.val = 1023 then (if i = 7#32 then 0 else U ⟨0, by omega⟩) else U ⟨17 + r.val, by omega⟩) := by
  have hV : ∀ j, mulf c (matmul (φ₂ := .bf16) dot_S1040x1024_S1024x1024_S1040x1024_1_0_0_1_n_n none xn wv
      (constant S1040x1024 .f32 0x00000000#32)) (ix2 j q)
      = U j := by
    intro j
    rw [hU]
    pointwise [mat]
  unfold k0_pay1
  dsimp only
  generalize mulf c (matmul (φ₂ := .bf16) dot_S1040x1024_S1024x1024_S1040x1024_1_0_0_1_n_n none xn wv (constant S1040x1024 .f32 0x00000000#32)) = V at hV
  pointwise [taps, mat]
  simp only [hV, select_eq]
  have hr : r.val < 1024 := r.isLt
  refine congrArg₂ (· * ·) rfl (congrArg₂ (· + ·) (congrArg₂ (· + ·) (congrArg₂ (· * ·) rfl ?_) rfl) (congrArg₂ (· * ·) rfl ?_))
  · by_cases h : r.val = 0
    · rw [dif_pos (by omega), if_pos h]
      refine congrArg (fun z => if i = 0#32 then (0 : EReal) else z) (congrArg U (Fin.ext ?_))
      show 8 + (8 + r.val + 1040 - 1) % 1040 = 15
      omega
    · rw [dif_neg (by omega), dif_pos (by omega), if_neg h]
      refine congrArg U (Fin.ext ?_)
      show 16 + ((8 + r.val + 1040 - 1) % 1040 - 8) = 15 + r.val
      omega
  · by_cases h : r.val = 1023
    · rw [dif_neg (by omega), dif_neg (by omega), dif_pos h]
      refine congrArg (fun z => if i = 7#32 then (0 : EReal) else z) (congrArg U (Fin.ext ?_))
      show (8 + r.val + 1040 - 1039) % 1040 - 8 - 1024 = 0
      omega
    · rw [dif_neg (by omega), dif_pos (by omega), dif_neg h]
      refine congrArg U (Fin.ext ?_)
      show 16 + ((8 + r.val + 1040 - 1039) % 1040 - 8) = 17 + r.val
      omega

/-- The middle third's projection of the stacked normed rows, entry by entry. -/
theorem mid_at (g : Vec Ideal S1x1024 .f32) (N P : Vec Ideal S1x8x1024 .f32) (X : Vec Ideal S1x1024x1024 .f32)
    (wc : Vec Ideal S1024x1024 .bf16) (j : Fin 1040) (q : Fin 1024) :
    k0_pay17 g (k0_pay13 N) (k0_pay14 N) k0_pay15 P X wc (ix2 j q)
      = mat (fun k => k0_pay16 g (k0_pay13 N) (k0_pay14 N) k0_pay15 P X (ix2 j k)) (fun k l => wc (ix2 k l)) q := by
  unfold k0_pay17
  generalize k0_pay16 g (k0_pay13 N) (k0_pay14 N) k0_pay15 P X = xn
  pointwise [mat]

/-- The block written at a point, from the blocks it reads: `i` the block's place in its sequence, `X` the block's rows, `P` and
    `N` the eight rows before and after, `g` the gains, `kk` the taps, `w` the projection. -/
def outBlk (i : BitVec 32) (X : Vec Ideal S1x1024x1024 .f32) (P N : Vec Ideal S1x8x1024 .f32) (g : Vec Ideal S4x1024 .f32)
    (kk : Vec Ideal S2x3x1024 .f32) (w : Vec Ideal S1024x3072 .bf16) : Vec Ideal S1x1024x1024 .bf16 :=
  k0_pay1 i (k0_pay12 (View.ld kk (Rect.unit ![0, 0, 0] ![1, 3, 1024] inb_S2x3x1024_S1x3x1024_0_0_0)))
    (k0_pay16 (View.ld g (Rect.unit ![0, 0] ![1, 1024] inb_S4x1024_S1x1024_0_0)) (k0_pay13 N) (k0_pay14 N) k0_pay15 P X)
    (k0_pay17 (View.ld g (Rect.unit ![0, 0] ![1, 1024] inb_S4x1024_S1x1024_0_0)) (k0_pay13 N) (k0_pay14 N) k0_pay15 P X
      (View.ld w (Rect.unit ![0, 1024] ![1024, 1024] inb_S1024x3072_S1024x1024_0_1024)))
    (View.ld w (Rect.unit ![0, 2048] ![1024, 1024] inb_S1024x3072_S1024x1024_0_2048)) (constant S1040x1024 .f32 0x00000000#32)
    (View.ld w (Rect.unit ![0, 0] ![1024, 1024] inb_S1024x3072_S1024x1024_0_0))

/-- The block's entries: the gate times the three taps around the row, the neighbours of the first and the last row coming from
    the rows before and after the block, or being zero at the ends of the sequence. -/
theorem out_at (i : BitVec 32) (X : Vec Ideal S1x1024x1024 .f32) (P N : Vec Ideal S1x8x1024 .f32) (g : Vec Ideal S4x1024 .f32)
    (kk : Vec Ideal S2x3x1024 .f32) (w : Vec Ideal S1024x3072 .bf16) (r q : Fin 1024) :
    outBlk i X P N g kk w (ix3 0 r q)
      = taps (gate (rms (fun k => X (ix3 0 r k)) (fun k => g (ix2 0 k))) (fun k l => w (ix2 k l)) q)
          (kk (ix3 0 0 q)) (kk (ix3 0 1 q)) (kk (ix3 0 2 q))
          (if h : r.val = 0 then (if i = 0#32 then 0 else gated (rms (fun k => P (ix3 0 7 k)) (fun k => g (ix2 0 k))) (fun k l => w (ix2 k l)) q)
            else gated (rms (fun k => X (ix3 0 ⟨r.val - 1, by omega⟩ k)) (fun k => g (ix2 0 k))) (fun k l => w (ix2 k l)) q)
          (gated (rms (fun k => X (ix3 0 r k)) (fun k => g (ix2 0 k))) (fun k l => w (ix2 k l)) q)
          (if h : r.val = 1023 then (if i = 7#32 then 0 else gated (rms (fun k => N (ix3 0 0 k)) (fun k => g (ix2 0 k))) (fun k l => w (ix2 k l)) q)
            else gated (rms (fun k => X (ix3 0 ⟨r.val + 1, by omega⟩ k)) (fun k => g (ix2 0 k))) (fun k l => w (ix2 k l)) q) := by
  have hg : ∀ k : Fin 1024, View.ld g (Rect.unit ![0, 0] ![1, 1024] inb_S4x1024_S1x1024_0_0) (ix2 0 k) = g (ix2 0 k) := by
    intro k
    pointwise []
  have hk : ∀ a : Fin 3, k0_pay12 (View.ld kk (Rect.unit ![0, 0, 0] ![1, 3, 1024] inb_S2x3x1024_S1x3x1024_0_0_0)) (ix2 a q) = kk (ix3 0 a q) := by
    intro a
    pointwise [k0_pay12]
  have h0 : ∀ k l : Fin 1024, View.ld w (Rect.unit ![0, 0] ![1024, 1024] inb_S1024x3072_S1024x1024_0_0) (ix2 k l)
      = w (ix2 k ⟨l.val, by omega⟩) := by
    intro k l
    pointwise []
  have h1 : ∀ k l : Fin 1024, View.ld w (Rect.unit ![0, 1024] ![1024, 1024] inb_S1024x3072_S1024x1024_0_1024) (ix2 k l)
      = w (ix2 k ⟨1024 + l.val, by omega⟩) := by
    intro k l
    pointwise []
  have h2 : ∀ k l : Fin 1024, View.ld w (Rect.unit ![0, 2048] ![1024, 1024] inb_S1024x3072_S1024x1024_0_2048) (ix2 k l)
      = w (ix2 k ⟨2048 + l.val, by omega⟩) := by
    intro k l
    pointwise []
  unfold outBlk
  rw [taps_at i _ _ _ _ _ r q _ (fun j => rfl)]
  simp only [mid_at]
  have hM : ∀ (r' : Fin 1024) (j : Fin 1040), j.val = 16 + r'.val →
      (fun k => k0_pay16 (View.ld g (Rect.unit ![0, 0] ![1, 1024] inb_S4x1024_S1x1024_0_0)) (k0_pay13 N) (k0_pay14 N) k0_pay15 P X (ix2 j k))
        = rms (fun k => X (ix3 0 r' k)) (fun k => g (ix2 0 k)) := by
    intro r' j hj
    funext k
    rw [show j = ⟨16 + r'.val, by omega⟩ from Fin.ext hj, normed_main]
    simp only [hg]
  have hP : (fun k => k0_pay16 (View.ld g (Rect.unit ![0, 0] ![1, 1024] inb_S4x1024_S1x1024_0_0)) (k0_pay13 N) (k0_pay14 N) k0_pay15 P X
      (ix2 ⟨15, by omega⟩ k)) = rms (fun k => P (ix3 0 7 k)) (fun k => g (ix2 0 k)) := by
    funext k
    refine (normed_prev _ N P X 7 k).trans ?_
    simp only [hg]
  have hN : (fun k => k0_pay16 (View.ld g (Rect.unit ![0, 0] ![1, 1024] inb_S4x1024_S1x1024_0_0)) (k0_pay13 N) (k0_pay14 N) k0_pay15 P X
      (ix2 ⟨0, by omega⟩ k)) = rms (fun k => N (ix3 0 0 k)) (fun k => g (ix2 0 k)) := by
    funext k
    refine (normed_next _ N P X 0 k).trans ?_
    simp only [hg]
  have hr : r.val < 1024 := r.isLt
  rw [hM r ⟨16 + r.val, by omega⟩ rfl, hP, hN]
  have hG : ∀ v : Fin 1024 → EReal,
      mat v (fun k l => View.ld w (Rect.unit ![0, 1024] ![1024, 1024] inb_S1024x3072_S1024x1024_0_1024) (ix2 k l)) q
        * mat v (fun k l => View.ld w (Rect.unit ![0, 2048] ![1024, 1024] inb_S1024x3072_S1024x1024_0_2048) (ix2 k l)) q
        = gated v (fun k l => w (ix2 k l)) q := by
    intro v
    simp only [gated, mat, h1, h2]
  have hB : ∀ v : Fin 1024 → EReal,
      mat v (fun k l => View.ld w (Rect.unit ![0, 0] ![1024, 1024] inb_S1024x3072_S1024x1024_0_0) (ix2 k l)) q
        = gate v (fun k l => w (ix2 k l)) q := by
    intro v
    simp only [gate, mat, h0]
  simp only [hG, hB, hk]
  congr 1
  · by_cases h : r.val = 0
    · rw [if_pos h, dif_pos h]
    · rw [if_neg h, dif_neg h, hM ⟨r.val - 1, by omega⟩ ⟨15 + r.val, by omega⟩ (by show 15 + r.val = 16 + (r.val - 1); omega)]
  · by_cases h : r.val = 1023
    · rw [dif_pos h, dif_pos h]
    · rw [dif_neg h, dif_neg h, hM ⟨r.val + 1, by omega⟩ ⟨17 + r.val, by omega⟩ (by show 17 + r.val = 16 + (r.val + 1); omega)]

end Cert.KernelIdeal.Conv

end
-- ==== Proof.ConvPoint.lean ====
/- What the convolution call's buffers hold after each grid point: the projection, cast once at the first point and kept, and the
   block the point writes. -/
module

public import proofs.«01_k».proof.Proof.ConvBlock
public import Idealize.ShloMosaic.Lib.Pipeline.ReadBack

@[expose] public section

set_option maxRecDepth 16384

noncomputable section

open Idealize.ShloMosaic Idealize.ShloMosaic.TcCoe Idealize.SL.Sem

namespace Cert.KernelIdeal.Conv

open Cert.KernelIdeal Cert.KernelIdeal.Gen Cert.Rows

variable (m : (ℓ : Loc nD τ sig) → Buf (Elt Ideal) ℓ) (c : Dev nD)

/-- One store over the whole projection buffer leaves the stored block. -/
theorem canon_one (W : Vec Ideal S1024x3072 .bf16) :
    View.canon ([⟨Rect.unit ![0, 0] ![1024, 3072] inb_S1024x3072_S1024x3072_0_0, W⟩] : List (View.Piece (Elt Ideal) S1024x3072 .bf16)) = W := by
  funext y
  canon_tiles x h
  all_goals blk_point []

/-- Where the projection's window sits at every point: over the first of the stacked projections. -/
theorem idx4 : ∀ t : Fin cfg0.N, win0_4.index t = ![0, 0, 0] := (by decide +kernel : ∀ t : Fin grid0.N, _)

/-- The projection of layer 0, as the kept buffer holds it. -/
def proj : Vec Ideal S1024x3072 .bf16 := fun y =>
  (show FVec Ideal S2x1024x3072 .f32 from m ((c : Thread nD τ).loc main_arg1)) (ix3 0 (y 0) (y 1))

/-- The cast projection block is the projection of layer 0. -/
theorem proj_at (t : Fin cfg0.N) : k0_pay11 (iblk m c 4 t) = proj m c := by
  funext y
  idx_vars y
  pointwise [k0_pay11, proj]
  blk_point [iblk, V, idx4 t]

/-- The kept buffer holds the projection after every point: stored at the first, left alone afterwards. -/
theorem kept : ∀ (n : ℕ) (h : n < cfg0.N), (outsAt0 m c n h).2.2.2.2.2.2.2.2.2.2 = proj m c := by
  intro n
  induction n with
  | zero =>
    intro h
    rw [show outsAt0 m c 0 h = _ from outsAt0_A m c ⟨0, h⟩ rfl]
    frame_out
    exact proj_at m c _
  | succ n ih =>
    intro h
    have hN : cfg0.N = 16 := N_0
    rw [show outsAt0 m c (n + 1) h = _ from outsAt0_B m c ⟨n + 1, h⟩ (by show ¬ (n + 1) % 16 = 0; omega)]
    refine Eq.trans ?_ (ih (by omega))
    rfl

/-- The block written at point `t`. -/
theorem block (t : Fin cfg0.N) : (outsAt0 m c t.val t.isLt).1
    = outBlk (BitVec.ofNat 32 (grid0.coords t 1)) (iblk m c 0 t) (iblk m c 1 t) (iblk m c 2 t) (iblk m c 3 t) (iblk m c 5 t) (proj m c) := by
  by_cases h : t.val % 16 = 0
  · rw [outsAt0_A m c t h]
    frame_out
    simp only [View.readCov_eq_canon', canon_one, proj_at]
    rfl
  · rw [outsAt0_B m c t h]
    frame_out
    have hk := kept m c (t.val - 1) (by omega)
    simp only [hk]
    exact congrArg (outBlk (BitVec.ofNat 32 (grid0.coords t 1)) (iblk m c 0 t) (iblk m c 1 t) (iblk m c 2 t) (iblk m c 3 t) (iblk m c 5 t))
      (read_unread_whole (Val := Elt Ideal) cc0_scratch0 _ (proj m c))

end Cert.KernelIdeal.Conv

end
-- ==== Proof.ConvRef.lean ====
/- What the plain convolution program computes: each element of the mixer's result is the gate of its row times the three taps
   around the row, with zero beyond the ends of the sequence. -/
module

public import proofs.«01_k».proof.Proof.Gen.ReferenceIdeal.Read
public import proofs.«01_k».proof.Proof.Rows
public import Idealize.ShloMosaic.Lib.Pointwise

@[expose] public section

set_option maxRecDepth 16384

noncomputable section

open Idealize.ShloMosaic Idealize.ShloMosaic.TcCoe Idealize.SL.Sem

namespace Cert.ReferenceIdeal.Conv

open Cert.ReferenceIdeal Cert.ReferenceIdeal.Gen Cert.ReferenceIdeal.Read Cert.Rows

variable (x : FVec Ideal S2x8192x1024 .f32) (w : FVec Ideal S2x1024x3072 .f32) (kk : FVec Ideal S2x3x1024 .f32) (g : FVec Ideal S4x1024 .f32)

/-- The normalised row. -/
theorem norm_ref (b : Fin 2) (s : Fin 8192) (q : Fin 1024) :
    val_main_v14 (F := Ideal) x g (ix3 b s q) = rms (fun k => x (ix3 b s k)) (fun k => g (ix2 0 k)) q := by
  pointwise [val_main_v14, val_main_v13, val_main_v12, val_main_v11, val_main_v10, val_main_v9, val_main_v8, val_main_v7, val_main_cst_1,
    val_main_v6, val_main_v5, val_main_cst_0, val_main_v4, val_main_v3, val_main_cst, val_main_v2, val_main_v1, val_main_v0, rms]

/-- The gate. -/
theorem gate_ref (b : Fin 2) (s : Fin 8192) (q : Fin 1024) :
    val_main_v20 (F := Ideal) x w g (ix3 b s q)
      = gate (rms (fun k => x (ix3 b s k)) (fun k => g (ix2 0 k))) (fun k l => w (ix3 0 k l)) q := by
  pointwise [val_main_v20, val_main_v19, val_main_v18, val_main_v17, norm_ref, gate, mat]

/-- The gated row. -/
theorem gated_ref (b : Fin 2) (s : Fin 8192) (q : Fin 1024) :
    val_main_v23 (F := Ideal) x w g (ix3 b s q)
      = gated (rms (fun k => x (ix3 b s k)) (fun k => g (ix2 0 k))) (fun k l => w (ix3 0 k l)) q := by
  pointwise [val_main_v23, val_main_v22, val_main_v21, val_main_v19, val_main_v18, val_main_v17, norm_ref, gated, mat]

/-- The padding value. -/
theorem pad_zero : (FloatOps.sitofp FTy.f32 (0#32) : Ideal .f32) = (0 : EReal) := by
  simp [FloatOps.sitofp]

/-- The mixer's result. -/
theorem mixer_ref (b : Fin 2) (s : Fin 8192) (q : Fin 1024) :
    val_main_v64 (F := Ideal) x w kk g (ix3 b s q)
      = taps (gate (rms (fun k => x (ix3 b s k)) (fun k => g (ix2 0 k))) (fun k l => w (ix3 0 k l)) q)
          (kk (ix3 0 0 q)) (kk (ix3 0 1 q)) (kk (ix3 0 2 q))
          (if h : s.val = 0 then 0
            else gated (rms (fun k => x (ix3 b ⟨s.val - 1, by omega⟩ k)) (fun k => g (ix2 0 k))) (fun k l => w (ix3 0 k l)) q)
          (gated (rms (fun k => x (ix3 b s k)) (fun k => g (ix2 0 k))) (fun k l => w (ix3 0 k l)) q)
          (if h : s.val = 8191 then 0
            else gated (rms (fun k => x (ix3 b ⟨s.val + 1, by omega⟩ k)) (fun k => g (ix2 0 k))) (fun k l => w (ix3 0 k l)) q) := by
  pointwise [val_main_v64, val_main_v63, val_main_v44, val_main_v43, val_main_v42, val_main_v41, val_main_v40, val_main_v39, val_main_v38,
    val_main_v37, val_main_v36, val_main_v35, val_main_v34, val_main_v33, val_main_v32, val_main_v31, val_main_v30, val_main_v29, val_main_v28,
    val_main_v27, val_main_v26, val_main_v25, val_main_v24, val_main_call0_v0, val_main_c, val_main_v16, val_main_v15, gate_ref, gated_ref, taps]
  have hs : s.val < 8192 := s.isLt
  refine congrArg₂ (· * ·) rfl (congrArg₂ (· + ·) (congrArg₂ (· + ·) (congrArg₂ (· * ·) rfl ?_) rfl) (congrArg₂ (· * ·) rfl ?_))
  · by_cases h : s.val = 0
    · rw [dif_neg (by omega), dif_pos h, pad_zero]
    · rw [dif_pos (by omega), dif_neg h]
  · by_cases h : s.val = 8191
    · rw [dif_neg (by omega), dif_pos h, pad_zero]
    · rw [dif_pos (by omega), dif_neg h]
      simp only [show 2 + s.val - 1 = s.val + 1 by omega]

end Cert.ReferenceIdeal.Conv

end
-- ==== Proof.ConvArray.lean ====
/- The convolution call's mixer array. Each block read is rows of the call's argument: the block's own rows, and the eight rows on
   either side, which stay inside the sequence at its ends. The sixteen blocks tile the array, which is what the plain program
   computes. -/
module

public import proofs.«01_k».proof.Proof.ConvPoint
public import proofs.«01_k».proof.Proof.ConvRef
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Conv

open Cert.KernelIdeal Cert.KernelIdeal.Gen Cert.Rows Cert.Blocks

/-- Where each window's block sits at each of the sixteen points. -/
theorem idx : ∀ t : Fin cfg0.N, win0_0.index t = ![t.val / 8, t.val % 8, 0]
    ∧ win0_1.index t = ![t.val / 8, t.val % 8 * 128 - 1, 0] ∧ win0_2.index t = ![t.val / 8, min ((t.val % 8 + 1) * 128) 1023, 0]
    ∧ win0_3.index t = ![0, 0] ∧ win0_5.index t = ![0, 0, 0] ∧ win0_15.index t = ![t.val / 8, t.val % 8, 0] :=
  (by decide +kernel : ∀ t : Fin grid0.N, _)

/-- The block's place in its sequence. -/
theorem place : ∀ t : Fin cfg0.N, (grid0.coords t 1).val = t.val % 8 := (by decide +kernel : ∀ t : Fin grid0.N, _)

variable (m : (ℓ : Loc nD τ sig) → Buf (Elt Ideal) ℓ) (c : Dev nD) (t : Fin cfg0.N)

/-- Row `p` of the block at point `t`. -/
theorem x_at (p : Fin 1024) (b : Fin 2) (s : Fin 8192) (hb : (b : ℕ) = t.val / 8) (hs : (s : ℕ) = t.val % 8 * 1024 + p) :
    (fun k : Fin 1024 => (iblk m c 0 t : FVec Ideal S1x1024x1024 .f32) (ix3 0 p k))
      = fun k => (m ((c : Thread nD τ).loc main_arg0) : FVec Ideal S2x8192x1024 .f32) (ix3 b s k) := by
  funext k
  blk_point [iblk, V, idx t]

/-- The row before the block, in the sequence's interior. -/
theorem prev_at (b : Fin 2) (s : Fin 8192) (hb : (b : ℕ) = t.val / 8) (h0 : ¬ t.val % 8 = 0) (hs : (s : ℕ) = t.val % 8 * 1024 - 1) :
    (fun k : Fin 1024 => (iblk m c 1 t : FVec Ideal S1x8x1024 .f32) (ix3 0 7 k))
      = fun k => (m ((c : Thread nD τ).loc main_arg0) : FVec Ideal S2x8192x1024 .f32) (ix3 b s k) := by
  funext k
  blk_point [iblk, V, idx t]

/-- The row after the block, in the sequence's interior. -/
theorem next_at (b : Fin 2) (s : Fin 8192) (hb : (b : ℕ) = t.val / 8) (h0 : ¬ t.val % 8 = 7) (hs : (s : ℕ) = (t.val % 8 + 1) * 1024) :
    (fun k : Fin 1024 => (iblk m c 2 t : FVec Ideal S1x8x1024 .f32) (ix3 0 0 k))
      = fun k => (m ((c : Thread nD τ).loc main_arg0) : FVec Ideal S2x8192x1024 .f32) (ix3 b s k) := by
  funext k
  blk_point [iblk, V, idx t]

/-- The gains of layer 0. -/
theorem g_at : (fun k : Fin 1024 => (iblk m c 3 t : FVec Ideal S4x1024 .f32) (ix2 0 k))
      = fun k => (m ((c : Thread nD τ).loc main_arg5) : FVec Ideal S4x1024 .f32) (ix2 0 k) := by
  funext k
  blk_point [iblk, V, idx t]

/-- The taps of layer 0. -/
theorem k_at (a : Fin 3) (q : Fin 1024) : (iblk m c 5 t : FVec Ideal S2x3x1024 .f32) (ix3 0 a q)
      = (m ((c : Thread nD τ).loc main_arg2) : FVec Ideal S2x3x1024 .f32) (ix3 0 a q) := by
  blk_point [iblk, V, idx t]

/-- The plain program's mixer result over this program's arguments. -/
abbrev plain : FVec Ideal S2x8192x1024 .bf16 :=
  Cert.ReferenceIdeal.Read.val_main_v64 (F := Ideal) (m ((c : Thread nD τ).loc main_arg0)) (m ((c : Thread nD τ).loc main_arg1))
    (m ((c : Thread nD τ).loc main_arg2)) (m ((c : Thread nD τ).loc main_arg5))

/-- Element `(p, q)` of the block of point `t` is the plain program's element at sequence `t / 8`, row `t % 8 * 1024 + p`. -/
theorem point (p q : Fin 1024) (b : Fin 2) (s : Fin 8192) (hb : (b : ℕ) = t.val / 8) (hs : (s : ℕ) = t.val % 8 * 1024 + p) :
    outBlk (BitVec.ofNat 32 (grid0.coords t 1)) (iblk m c 0 t) (iblk m c 1 t) (iblk m c 2 t) (iblk m c 3 t) (iblk m c 5 t) (proj m c) (ix3 0 p q)
      = plain m c (ix3 b s q) := by
  have ht : t.val < 16 := lt_of_lt_of_eq t.isLt N_0
  have hp : p.val < 1024 := p.isLt
  have hs' : s.val < 8192 := s.isLt
  rw [plain, Cert.ReferenceIdeal.Conv.mixer_ref, out_at, place t]
  have e0 : (BitVec.ofNat 32 (t.val % 8) = 0#32) ↔ t.val % 8 = 0 := word_eq _ 0 (by omega) (by omega)
  have e7 : (BitVec.ofNat 32 (t.val % 8) = 7#32) ↔ t.val % 8 = 7 := word_eq _ 7 (by omega) (by omega)
  simp only [e0, e7]
  rw [x_at m c t p b s hb hs, g_at m c t, k_at m c t, k_at m c t, k_at m c t]
  have hw : (fun (k : Fin 1024) (l : Fin 3072) => proj m c (ix2 k l))
      = fun k l => (m ((c : Thread nD τ).loc main_arg1) : FVec Ideal S2x1024x3072 .f32) (ix3 0 k l) := rfl
  rw [hw]
  congr 1
  · by_cases h : p.val = 0
    · by_cases h0 : t.val % 8 = 0
      · rw [dif_pos h, if_pos h0, dif_pos (by omega)]
      · rw [dif_pos h, if_neg h0, dif_neg (by omega),
          prev_at m c t b ⟨s.val - 1, by omega⟩ hb h0 (by show s.val - 1 = _; omega)]
    · rw [dif_neg h, dif_neg (by omega),
        x_at m c t ⟨p.val - 1, by omega⟩ b ⟨s.val - 1, by omega⟩ hb (by show s.val - 1 = _ + (p.val - 1); omega)]
  · by_cases h : p.val = 1023
    · by_cases h7 : t.val % 8 = 7
      · rw [dif_pos h, if_pos h7, dif_pos (by omega)]
      · rw [dif_pos h, if_neg h7, dif_neg (by omega),
          next_at m c t b ⟨s.val + 1, by omega⟩ hb h7 (by show s.val + 1 = _; omega)]
    · rw [dif_neg h, dif_neg (by omega),
        x_at m c t ⟨p.val + 1, by omega⟩ b ⟨s.val + 1, by omega⟩ hb (by show s.val + 1 = _ + (p.val + 1); omega)]

/-- The mixer array after the run is the plain program's. -/
theorem final : (dats m 0 c).arrAt 15 cfg0.N = plain m c := by
  refine (dats m 0 c).arrAt_eq_of_covers 15 _ (by decide +kernel) fun t _ y => ?_
  blk_simp
  rw [after0_15, block]
  idx_vars y
  have ht : t.val < 16 := lt_of_lt_of_eq t.isLt N_0
  have hy : y0 = 0 := Subsingleton.elim _ _
  subst hy
  refine (point m c t y1 y2 ⟨t.val / 8, by omega⟩ ⟨t.val % 8 * 1024 + y1, by omega⟩ rfl rfl).trans (congrArg _ ?_)
  blk_ext [idx t]

end Cert.KernelIdeal.Conv

end
-- ==== Proof.ConvCasts.lean ====
/- The convolution call's nine side results: the weights that later calls read, a block of rows carried at each point. -/
module

public import proofs.«01_k».proof.Proof.ConvPoint
public import proofs.«01_k».proof.Proof.Gen.ReferenceIdeal.Read
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Conv

open Cert.KernelIdeal Cert.KernelIdeal.Gen Cert.ReferenceIdeal.Read

/-- Where the carried weights' blocks sit at each point: rows of block `t` of their layer. -/
theorem idx_in : ∀ t : Fin cfg0.N, win0_6.index t = ![0, t.val, 0]
    ∧ win0_7.index t = ![0, t.val, 0]
    ∧ win0_8.index t = ![0, t.val, 0]
    ∧ win0_9.index t = ![0, t.val, 0]
    ∧ win0_10.index t = ![0, t.val, 0]
    ∧ win0_11.index t = ![1, t.val, 0]
    ∧ win0_12.index t = ![1, t.val, 0]
    ∧ win0_13.index t = ![1, t.val, 0]
    ∧ win0_14.index t = ![1, t.val, 0] :=
  (by decide +kernel : ∀ t : Fin grid0.N, _)

/-- Where the side results' blocks sit: rows of block `t`. -/
theorem idx_out : ∀ t : Fin cfg0.N, win0_16.index t = ![t.val, 0]
    ∧ win0_17.index t = ![t.val, 0]
    ∧ win0_18.index t = ![t.val, 0]
    ∧ win0_19.index t = ![t.val, 0]
    ∧ win0_20.index t = ![t.val, 0]
    ∧ win0_21.index t = ![t.val, 0]
    ∧ win0_22.index t = ![t.val, 0]
    ∧ win0_23.index t = ![t.val, 0]
    ∧ win0_24.index t = ![t.val, 0] :=
  (by decide +kernel : ∀ t : Fin grid0.N, _)

variable (m : (ℓ : Loc nD τ sig) → Buf (Elt Ideal) ℓ) (c : Dev nD)

/-- The block of rows that window 16 carries at each point. -/
theorem carried_16 (t : Fin cfg0.N) : (outsAt0 m c t.val t.isLt).2.1 = k0_pay2 (iblk m c 6 t) := by
  by_cases h : t.val % 16 = 0
  · rw [outsAt0_A m c t h]; frame_out
  · rw [outsAt0_B m c t h]; frame_out

/-- The output projection of layer 0. -/
theorem final_16 : (dats m 0 c).arrAt 16 cfg0.N = val_main_v65 (F := Ideal) (m ((c : Thread nD τ).loc main_arg3)) := by
  refine (dats m 0 c).arrAt_eq_of_covers 16 _ (by decide +kernel) fun t _ y => ?_
  blk_simp
  rw [after0_16, carried_16]
  idx_vars y
  pointwise [k0_pay2, val_main_v65, val_main_v46, val_main_v45]
  blk_point [iblk, V, idx_in t, idx_out t]

/-- The block of rows that window 17 carries at each point. -/
theorem carried_17 (t : Fin cfg0.N) : (outsAt0 m c t.val t.isLt).2.2.1 = k0_pay3 (iblk m c 7 t) := by
  by_cases h : t.val % 16 = 0
  · rw [outsAt0_A m c t h]; frame_out
  · rw [outsAt0_B m c t h]; frame_out

/-- The gate projection of layer 0. -/
theorem final_17 : (dats m 0 c).arrAt 17 cfg0.N = val_main_v66 (F := Ideal) (m ((c : Thread nD τ).loc main_arg6)) := by
  refine (dats m 0 c).arrAt_eq_of_covers 17 _ (by decide +kernel) fun t _ y => ?_
  blk_simp
  rw [after0_17, carried_17]
  idx_vars y
  pointwise [k0_pay3, val_main_v66, val_main_v48, val_main_v47]
  blk_point [iblk, V, idx_in t, idx_out t]

/-- The block of rows that window 18 carries at each point. -/
theorem carried_18 (t : Fin cfg0.N) : (outsAt0 m c t.val t.isLt).2.2.2.1 = k0_pay4 (iblk m c 8 t) := by
  by_cases h : t.val % 16 = 0
  · rw [outsAt0_A m c t h]; frame_out
  · rw [outsAt0_B m c t h]; frame_out

/-- The up projection of layer 0. -/
theorem final_18 : (dats m 0 c).arrAt 18 cfg0.N = val_main_v67 (F := Ideal) (m ((c : Thread nD τ).loc main_arg7)) := by
  refine (dats m 0 c).arrAt_eq_of_covers 18 _ (by decide +kernel) fun t _ y => ?_
  blk_simp
  rw [after0_18, carried_18]
  idx_vars y
  pointwise [k0_pay4, val_main_v67, val_main_v50, val_main_v49]
  blk_point [iblk, V, idx_in t, idx_out t]

/-- The block of rows that window 19 carries at each point. -/
theorem carried_19 (t : Fin cfg0.N) : (outsAt0 m c t.val t.isLt).2.2.2.2.1 = k0_pay5 (iblk m c 9 t) := by
  by_cases h : t.val % 16 = 0
  · rw [outsAt0_A m c t h]; frame_out
  · rw [outsAt0_B m c t h]; frame_out

/-- The down projection of layer 0. -/
theorem final_19 : (dats m 0 c).arrAt 19 cfg0.N = val_main_v68 (F := Ideal) (m ((c : Thread nD τ).loc main_arg8)) := by
  refine (dats m 0 c).arrAt_eq_of_covers 19 _ (by decide +kernel) fun t _ y => ?_
  blk_simp
  rw [after0_19, carried_19]
  idx_vars y
  pointwise [k0_pay5, val_main_v68, val_main_v52, val_main_v51]
  blk_point [iblk, V, idx_in t, idx_out t]

/-- The block of rows that window 20 carries at each point. -/
theorem carried_20 (t : Fin cfg0.N) : (outsAt0 m c t.val t.isLt).2.2.2.2.2.1 = k0_pay6 (iblk m c 10 t) := by
  by_cases h : t.val % 16 = 0
  · rw [outsAt0_A m c t h]; frame_out
  · rw [outsAt0_B m c t h]; frame_out

/-- The output projection of layer 1. -/
theorem final_20 : (dats m 0 c).arrAt 20 cfg0.N = val_main_v69 (F := Ideal) (m ((c : Thread nD τ).loc main_arg4)) := by
  refine (dats m 0 c).arrAt_eq_of_covers 20 _ (by decide +kernel) fun t _ y => ?_
  blk_simp
  rw [after0_20, carried_20]
  idx_vars y
  pointwise [k0_pay6, val_main_v69, val_main_v54, val_main_v53]
  blk_point [iblk, V, idx_in t, idx_out t]

/-- The block of rows that window 21 carries at each point. -/
theorem carried_21 (t : Fin cfg0.N) : (outsAt0 m c t.val t.isLt).2.2.2.2.2.2.1 = k0_pay7 (iblk m c 11 t) := by
  by_cases h : t.val % 16 = 0
  · rw [outsAt0_A m c t h]; frame_out
  · rw [outsAt0_B m c t h]; frame_out

/-- The gate projection of layer 1. -/
theorem final_21 : (dats m 0 c).arrAt 21 cfg0.N = val_main_v70 (F := Ideal) (m ((c : Thread nD τ).loc main_arg6)) := by
  refine (dats m 0 c).arrAt_eq_of_covers 21 _ (by decide +kernel) fun t _ y => ?_
  blk_simp
  rw [after0_21, carried_21]
  idx_vars y
  pointwise [k0_pay7, val_main_v70, val_main_v56, val_main_v55]
  blk_point [iblk, V, idx_in t, idx_out t]

/-- The block of rows that window 22 carries at each point. -/
theorem carried_22 (t : Fin cfg0.N) : (outsAt0 m c t.val t.isLt).2.2.2.2.2.2.2.1 = k0_pay8 (iblk m c 12 t) := by
  by_cases h : t.val % 16 = 0
  · rw [outsAt0_A m c t h]; frame_out
  · rw [outsAt0_B m c t h]; frame_out

/-- The up projection of layer 1. -/
theorem final_22 : (dats m 0 c).arrAt 22 cfg0.N = val_main_v71 (F := Ideal) (m ((c : Thread nD τ).loc main_arg7)) := by
  refine (dats m 0 c).arrAt_eq_of_covers 22 _ (by decide +kernel) fun t _ y => ?_
  blk_simp
  rw [after0_22, carried_22]
  idx_vars y
  pointwise [k0_pay8, val_main_v71, val_main_v58, val_main_v57]
  blk_point [iblk, V, idx_in t, idx_out t]

/-- The block of rows that window 23 carries at each point. -/
theorem carried_23 (t : Fin cfg0.N) : (outsAt0 m c t.val t.isLt).2.2.2.2.2.2.2.2.1 = k0_pay9 (iblk m c 13 t) := by
  by_cases h : t.val % 16 = 0
  · rw [outsAt0_A m c t h]; frame_out
  · rw [outsAt0_B m c t h]; frame_out

/-- The down projection of layer 1. -/
theorem final_23 : (dats m 0 c).arrAt 23 cfg0.N = val_main_v72 (F := Ideal) (m ((c : Thread nD τ).loc main_arg8)) := by
  refine (dats m 0 c).arrAt_eq_of_covers 23 _ (by decide +kernel) fun t _ y => ?_
  blk_simp
  rw [after0_23, carried_23]
  idx_vars y
  pointwise [k0_pay9, val_main_v72, val_main_v60, val_main_v59]
  blk_point [iblk, V, idx_in t, idx_out t]

/-- The block of rows that window 24 carries at each point. -/
theorem carried_24 (t : Fin cfg0.N) : (outsAt0 m c t.val t.isLt).2.2.2.2.2.2.2.2.2.1 = k0_pay10 (iblk m c 14 t) := by
  by_cases h : t.val % 16 = 0
  · rw [outsAt0_A m c t h]; frame_out
  · rw [outsAt0_B m c t h]; frame_out

/-- The input projection of layer 2. -/
theorem final_24 : (dats m 0 c).arrAt 24 cfg0.N = val_main_v73 (F := Ideal) (m ((c : Thread nD τ).loc main_arg1)) := by
  refine (dats m 0 c).arrAt_eq_of_covers 24 _ (by decide +kernel) fun t _ y => ?_
  blk_simp
  rw [after0_24, carried_24]
  idx_vars y
  pointwise [k0_pay10, val_main_v73, val_main_v62, val_main_v61]
  blk_point [iblk, V, idx_in t, idx_out t]

end Cert.KernelIdeal.Conv

end
-- ==== Proof.ConvClaim.lean ====
/- The convolution call and the plain program end with equal results. -/
module

public import proofs.«01_k».proof.Defs
public import proofs.«01_k».proof.Proof.ConvArray
public import proofs.«01_k».proof.Proof.ConvCasts
public import proofs.«01_k».proof.Proof.Gen.KernelIdeal
public import proofs.«01_k».proof.Proof.Gen.ReferenceIdeal
public import Idealize.ShloMosaic.Lib.Claim

@[expose] public section

set_option maxRecDepth 16384

noncomputable section

open Idealize.ShloMosaic Idealize.ShloMosaic.TcCoe Idealize.SL.Sem

namespace Cert.Proof

/-- From agreeing arguments the call's ten result arrays and the plain program's are equal over the ideal numbers: the mixer's rows
    are the gated three-tap rows, and the nine others are the weights themselves. -/
theorem algebraic_conv : Cert.algebraic_KernelIdeal_ReferenceIdeal := by
  pair_intro
  · run_from Cert.KernelIdeal.Value.run_blocks m g
  · run_from Cert.ReferenceIdeal.Value.run m' g'
    · rw [Cert.ReferenceIdeal.Read.val_main_v64_eq, (hagree c).1, (hagree c).2.1, (hagree c).2.2.1, (hagree c).2.2.2.2.2.1]
      exact (Cert.KernelIdeal.Conv.final m c).symm
    · exact (Cert.KernelIdeal.Conv.final_16 m c).symm
    · exact (Cert.KernelIdeal.Conv.final_17 m c).symm
    · exact (Cert.KernelIdeal.Conv.final_18 m c).symm
    · exact (Cert.KernelIdeal.Conv.final_19 m c).symm
    · exact (Cert.KernelIdeal.Conv.final_20 m c).symm
    · exact (Cert.KernelIdeal.Conv.final_21 m c).symm
    · exact (Cert.KernelIdeal.Conv.final_22 m c).symm
    · exact (Cert.KernelIdeal.Conv.final_23 m c).symm
    · exact (Cert.KernelIdeal.Conv.final_24 m c).symm

end Cert.Proof

end
-- ==== Proof.FourierBlock.lean ====
/- What one grid point of the first Fourier call computes. Each of its four groups of sixteen positions is taken in two halves
   of eight: the normed rows of a half, 32 times 8 of them, are multiplied by the call's table from the left, and the two
   products are laid side by side. -/
module

public import proofs.«01_k».proof.Proof.Gen.Kernel3Ideal.Value
public import proofs.«01_k».proof.Proof.Rows
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel3Ideal.Fourier

open Cert.Kernel3Ideal Cert.Kernel3Ideal.Gen Cert.Rows

/-- Row `r` of the table times the normed rows of one half of a group. -/
def half (g : Vec Ideal S1x1024 .f32) (l : Vec Ideal S272x256 .bf16) (x : Vec Ideal S1x32x1x8x1024 .f32)
    (r : Fin 272) (q : Fin 1024) : EReal :=
  ∑ c : Fin 256, l (ix2 r c) * rms (fun k => x (ix5 0 ⟨c.val / 8, by omega⟩ 0 ⟨c.val % 8, by omega⟩ k)) (fun k => g (ix2 0 k)) q

variable (g : Vec Ideal S1x1024 .f32) (l : FVec Ideal S272x256 .bf16) (x x' : Vec Ideal S1x32x1x8x1024 .f32)

/-- The products of the first halves, one statement for each of the body's four groups. -/
theorem half_3 (a : Fin 34) (i : Fin 8) (q : Fin 1024) :
    k0_pay3 g l x (ix3 a i q) = half g l x ⟨a.val * 8 + i.val, by omega⟩ q := by
  pointwise [k0_pay3, k0_pay2, half, rms]

theorem half_6 (a : Fin 34) (i : Fin 8) (q : Fin 1024) :
    k0_pay6 g l x (ix3 a i q) = half g l x ⟨a.val * 8 + i.val, by omega⟩ q := by
  pointwise [k0_pay6, half, rms]

theorem half_11 (a : Fin 34) (i : Fin 8) (q : Fin 1024) :
    k0_pay11 g l x (ix3 a i q) = half g l x ⟨a.val * 8 + i.val, by omega⟩ q := by
  pointwise [k0_pay11, half, rms]

theorem half_15 (a : Fin 34) (i : Fin 8) (q : Fin 1024) :
    k0_pay15 g l x (ix3 a i q) = half g l x ⟨a.val * 8 + i.val, by omega⟩ q := by
  pointwise [k0_pay15, half, rms]

/-- A group's product at frequency `k1`, part `p`, position `s`, feature `q`: the half that `s` lies in. -/
def group (k1 : Fin 17) (p : Fin 2) (s : Fin 16) (q : Fin 1024) : EReal :=
  half g l (if s.val < 8 then x else x') ⟨(k1.val * 2 + p.val) * 8 + s.val % 8, by omega⟩ q

/-- The two halves side by side, for each of the four groups. -/
theorem group_5 (a : Fin 1) (k1 : Fin 17) (p : Fin 2) (d : Fin 1) (s : Fin 16) (q : Fin 1024) :
    k0_pay5 l (k0_pay3 g l x) (k0_pay4 g x') (ix6 a k1 p d s q) = group g l x x' k1 p s q := by
  pointwise [k0_pay5, k0_pay4]
  unfold group
  split
  · next h =>
    rw [half_3]
    exact congrArg (half g l x · q) (Fin.ext (by show (k1.val * 2 + p.val) * 8 + s.val = _; dsimp only; omega))
  · next h =>
    have e : (⟨(k1.val * 2 + p.val) * 8 + s.val % 8, by omega⟩ : Fin 272) = ⟨(k1.val * 2 + p.val) * 8 + (s.val - 8), by omega⟩ :=
      Fin.ext (by dsimp only; omega)
    rw [e]
    unfold half rms
    rfl

theorem group_10 (a : Fin 1) (k1 : Fin 17) (p : Fin 2) (d : Fin 1) (s : Fin 16) (q : Fin 1024) :
    k0_pay10 g l (k0_pay6 g l x) (k0_pay7 x') (k0_pay8 x') k0_pay9 (ix6 a k1 p d s q) = group g l x x' k1 p s q := by
  pointwise [k0_pay10, k0_pay7, k0_pay8, k0_pay9]
  unfold group
  split
  · next h =>
    rw [half_6]
    exact congrArg (half g l x · q) (Fin.ext (by show (k1.val * 2 + p.val) * 8 + s.val = _; dsimp only; omega))
  · next h =>
    have e : (⟨(k1.val * 2 + p.val) * 8 + s.val % 8, by omega⟩ : Fin 272) = ⟨(k1.val * 2 + p.val) * 8 + (s.val - 8), by omega⟩ :=
      Fin.ext (by dsimp only; omega)
    rw [e]
    unfold half rms
    rfl

theorem group_14 (a : Fin 1) (k1 : Fin 17) (p : Fin 2) (d : Fin 1) (s : Fin 16) (q : Fin 1024) :
    k0_pay14 g l (k0_pay11 g l x) (k0_pay12 x') (k0_pay13 x') (ix6 a k1 p d s q) = group g l x x' k1 p s q := by
  pointwise [k0_pay14, k0_pay12, k0_pay13]
  unfold group
  split
  · next h =>
    rw [half_11]
    exact congrArg (half g l x · q) (Fin.ext (by show (k1.val * 2 + p.val) * 8 + s.val = _; dsimp only; omega))
  · next h =>
    have e : (⟨(k1.val * 2 + p.val) * 8 + s.val % 8, by omega⟩ : Fin 272) = ⟨(k1.val * 2 + p.val) * 8 + (s.val - 8), by omega⟩ :=
      Fin.ext (by dsimp only; omega)
    rw [e]
    unfold half rms
    rfl

theorem group_1 (a : Fin 1) (k1 : Fin 17) (p : Fin 2) (d : Fin 1) (s : Fin 16) (q : Fin 1024) :
    k0_pay1 g l (k0_pay15 g l x) x' (ix6 a k1 p d s q) = group g l x x' k1 p s q := by
  pointwise [k0_pay1]
  unfold group
  split
  · next h =>
    rw [half_15]
    exact congrArg (half g l x · q) (Fin.ext (by show (k1.val * 2 + p.val) * 8 + s.val = _; dsimp only; omega))
  · next h =>
    have e : (⟨(k1.val * 2 + p.val) * 8 + s.val % 8, by omega⟩ : Fin 272) = ⟨(k1.val * 2 + p.val) * 8 + (s.val - 8), by omega⟩ :=
      Fin.ext (by dsimp only; omega)
    rw [e]
    unfold half rms
    rfl

/-- The table is taken as it is. -/
theorem table_2 (l : Vec Ideal S272x256 .bf16) : k0_pay2 (F := Ideal) l = l := by
  funext y
  pointwise [k0_pay2]

/-- The block a point writes: at group `j`, position `s` of it, the table's row of that frequency and part times the normed rows
    at the 32 strides and the eight positions of the half that `s` lies in. -/
def outBlk (h : Vec Ideal S1x32x4x16x1024 .f32) (g : Vec Ideal S4x1024 .f32) (l : Vec Ideal S272x256 .bf16) :
    Vec Ideal S1x17x2x4x16x1024 .bf16 := fun y =>
  ∑ c : Fin 256, l (ix2 (⟨((y 1).val * 2 + (y 2).val) * 8 + (y 4).val % 8, by
      have := (y 1).isLt; have := (y 2).isLt; dsimp [S1x17x2x4x16x1024] at *; omega⟩ : Fin 272) c)
    * rms (fun k => h (ix5 0 ⟨c.val / 8, by omega⟩ (y 3) ⟨(y 4).val / 8 * 8 + c.val % 8, by
      have := (y 4).isLt; dsimp [S1x17x2x4x16x1024] at *; omega⟩ k)) (fun k => g (ix2 1 k)) (y 5)

/-- The four stores are that block. -/
theorem out_eq (h : Vec Ideal S1x32x4x16x1024 .f32) (g : Vec Ideal S4x1024 .f32) (l : Vec Ideal S272x256 .bf16) :
    out0_3 h g l = outBlk h g l := by
  unfold_out out0_3
  funext y
  canon_tiles x hx
  · idx_vars x
    simp only [table_2]
    refine (group_1 _ _ _ _ _ _ _ _ _ _).trans ?_
    simp only [group, half, rms, outBlk, r0_0, r0_1, r0_11, r0_12]
    split <;> (pointwise []; blk_point [])
  · idx_vars x
    simp only [table_2]
    refine (group_14 _ _ _ _ _ _ _ _ _ _).trans ?_
    simp only [group, half, rms, outBlk, r0_0, r0_1, r0_8, r0_9]
    split <;> (pointwise []; blk_point [])
  · idx_vars x
    simp only [table_2]
    refine (group_10 _ _ _ _ _ _ _ _ _ _).trans ?_
    simp only [group, half, rms, outBlk, r0_0, r0_1, r0_5, r0_6]
    split <;> (pointwise []; blk_point [])
  · idx_vars x
    simp only [table_2]
    refine (group_5 _ _ _ _ _ _ _ _ _ _).trans ?_
    simp only [group, half, rms, outBlk, r0_0, r0_1, r0_2, r0_3]
    split <;> (pointwise []; blk_point [])

end Cert.Kernel3Ideal.Fourier

end
-- ==== Proof.FourierWords.lean ====
/- The words of the first Fourier call's table: the word at row `r`, column `c` is the plain program's word of frequency
   `r / 16` and position `c / 8` where `r` and `c` agree mod 8 (of the cosines in even groups of eight rows, of the negated
   sines in odd ones), and a zero elsewhere. -/
module

public import proofs.«01_k».proof.Kernel3Ideal
public import proofs.«01_k».proof.Reference3Ideal

@[expose] public section

set_option maxRecDepth 16384

noncomputable section

open Idealize.ShloMosaic

namespace Cert.Kernel3Ideal.Fourier

/-- `f` holds of every number below `n`. -/
def below : ℕ → (ℕ → Bool) → Bool
  | 0, _ => true
  | n + 1, f => f n && below n f

theorem of_below {n : ℕ} {f : ℕ → Bool} (h : below n f = true) {i : ℕ} (hi : i < n) : f i = true := by
  induction n with
  | zero => omega
  | succ n ih =>
    simp only [below, Bool.and_eq_true] at h
    rcases Nat.lt_succ_iff_lt_or_eq.1 hi with h' | rfl
    · exact ih h.2 h'
    · exact h.1

/-- The word at row `r`, column `c` is what it should be: the coefficient's word where the residues agree, a zero elsewhere. -/
def good (r c : ℕ) : Bool :=
  let w := (lit0t (r * 256 + c)).toNat
  if r % 8 = c % 8 then
    (if r / 8 % 2 = 0 then Nat.beq w (Cert.Reference3Ideal.lit0t (r / 16 * 32 + c / 8)).toNat
      else Nat.beq w (Cert.Reference3Ideal.lit1t (r / 16 * 32 + c / 8)).toNat)
  else Nat.beq (w % 2147483648) 0

end Cert.Kernel3Ideal.Fourier

end
-- ==== Proof.FourierWordsLow.lean ====
/- The table of the first Fourier call, its first half: every word is looked up and compared, 17 rows at a time. -/
module

public import proofs.«01_k».proof.Proof.FourierWords

@[expose] public section

set_option maxRecDepth 16384

noncomputable section

open Idealize.ShloMosaic

namespace Cert.Kernel3Ideal.Fourier

theorem good_0 : below 17 (fun r => below 256 (good (0 + r))) = true := by decide +kernel
theorem good_1 : below 17 (fun r => below 256 (good (17 + r))) = true := by decide +kernel
theorem good_2 : below 17 (fun r => below 256 (good (34 + r))) = true := by decide +kernel
theorem good_3 : below 17 (fun r => below 256 (good (51 + r))) = true := by decide +kernel
theorem good_4 : below 17 (fun r => below 256 (good (68 + r))) = true := by decide +kernel
theorem good_5 : below 17 (fun r => below 256 (good (85 + r))) = true := by decide +kernel
theorem good_6 : below 17 (fun r => below 256 (good (102 + r))) = true := by decide +kernel
theorem good_7 : below 17 (fun r => below 256 (good (119 + r))) = true := by decide +kernel

end Cert.Kernel3Ideal.Fourier

end
-- ==== Proof.FourierWordsHigh.lean ====
/- The table of the first Fourier call, its second half: every word is looked up and compared, 17 rows at a time. -/
module

public import proofs.«01_k».proof.Proof.FourierWords

@[expose] public section

set_option maxRecDepth 16384

noncomputable section

open Idealize.ShloMosaic

namespace Cert.Kernel3Ideal.Fourier

theorem good_8 : below 17 (fun r => below 256 (good (136 + r))) = true := by decide +kernel
theorem good_9 : below 17 (fun r => below 256 (good (153 + r))) = true := by decide +kernel
theorem good_10 : below 17 (fun r => below 256 (good (170 + r))) = true := by decide +kernel
theorem good_11 : below 17 (fun r => below 256 (good (187 + r))) = true := by decide +kernel
theorem good_12 : below 17 (fun r => below 256 (good (204 + r))) = true := by decide +kernel
theorem good_13 : below 17 (fun r => below 256 (good (221 + r))) = true := by decide +kernel
theorem good_14 : below 17 (fun r => below 256 (good (238 + r))) = true := by decide +kernel
theorem good_15 : below 17 (fun r => below 256 (good (255 + r))) = true := by decide +kernel

end Cert.Kernel3Ideal.Fourier

end
-- ==== Proof.FourierTable.lean ====
/- The table of the first Fourier call is the transform's table, spread: the entry at row `r`, column `c` is the
   coefficient of frequency `r / 16` and position `c / 8` where `r` and `c` agree mod 8, and zero elsewhere. So a row of the
   table times a column of 256 numbers is the transform of the 32 of them with the row's residue. -/
module

public import proofs.«01_k».proof.Proof.FourierWordsLow
public import proofs.«01_k».proof.Proof.FourierWordsHigh
public import Idealize.ShloMosaic.PureOps.Ideal
public import Idealize.ShloMosaic.PureOps.Ideal.Laws

@[expose] public section

set_option maxRecDepth 16384

noncomputable section

open Idealize.ShloMosaic

namespace Cert.Kernel3Ideal.Fourier

/-- Every word of the table is what it should be. -/
theorem good_all {r c : ℕ} (hr : r < 272) (hc : c < 256) : good r c = true := by
  have key : ∀ k : ℕ, below 17 (fun r => below 256 (good (k + r))) = true → k ≤ r → r < k + 17 → good r c = true := by
    intro k h h₁ h₂
    have := of_below (of_below h (i := r - k) (by omega)) hc
    rwa [show k + (r - k) = r by omega] at this
  by_cases h0 : r < 17; · exact key 0 good_0 (by omega) (by omega)
  by_cases h1 : r < 34; · exact key 17 good_1 (by omega) (by omega)
  by_cases h2 : r < 51; · exact key 34 good_2 (by omega) (by omega)
  by_cases h3 : r < 68; · exact key 51 good_3 (by omega) (by omega)
  by_cases h4 : r < 85; · exact key 68 good_4 (by omega) (by omega)
  by_cases h5 : r < 102; · exact key 85 good_5 (by omega) (by omega)
  by_cases h6 : r < 119; · exact key 102 good_6 (by omega) (by omega)
  by_cases h7 : r < 136; · exact key 119 good_7 (by omega) (by omega)
  by_cases h8 : r < 153; · exact key 136 good_8 (by omega) (by omega)
  by_cases h9 : r < 170; · exact key 153 good_9 (by omega) (by omega)
  by_cases h10 : r < 187; · exact key 170 good_10 (by omega) (by omega)
  by_cases h11 : r < 204; · exact key 187 good_11 (by omega) (by omega)
  by_cases h12 : r < 221; · exact key 204 good_12 (by omega) (by omega)
  by_cases h13 : r < 238; · exact key 221 good_13 (by omega) (by omega)
  by_cases h14 : r < 255; · exact key 238 good_14 (by omega) (by omega)
  exact key 255 good_15 (by omega) (by omega)

/-- The two words that are zero over the ideal numbers. -/
theorem zero_word {w : BitVec 32} (h : w.toNat % 2147483648 = 0) : Ideal.ofBits .f32 w = 0 := by
  have hw : w.toNat < 4294967296 := w.isLt
  rcases (by omega : w.toNat = 0 ∨ w.toNat = 2147483648) with h | h
  · obtain rfl : w = 0x00000000#32 := BitVec.eq_of_toNat_eq h
    simp [Ideal.ofBits, Ideal.ieee]
  · obtain rfl : w = 0x80000000#32 := BitVec.eq_of_toNat_eq h
    simp [Ideal.ofBits, Ideal.ieee]

/-- The coefficient of frequency `k` and position `n`: part 0 the cosine's, part 1 the negated sine's. -/
def coef (k p n : ℕ) : EReal :=
  Ideal.ofBits .f32 (if p = 0 then Cert.Reference3Ideal.lit0t (k * 32 + n) else Cert.Reference3Ideal.lit1t (k * 32 + n))

/-- The table's entry over the ideal numbers. -/
theorem entry {r c : ℕ} (hr : r < 272) (hc : c < 256) :
    Ideal.ofBits .f32 (lit0t (r * 256 + c)) = if r % 8 = c % 8 then coef (r / 16) (r / 8 % 2) (c / 8) else 0 := by
  have h := good_all hr hc
  unfold good coef at *
  by_cases h8 : r % 8 = c % 8
  · by_cases h2 : r / 8 % 2 = 0
    · simp only [h8, h2, if_true] at h ⊢
      exact congrArg (Ideal.ofBits .f32) (BitVec.eq_of_toNat_eq (Nat.eq_of_beq_eq_true h))
    · simp only [h8, h2, if_true, if_false] at h ⊢
      exact congrArg (Ideal.ofBits .f32) (BitVec.eq_of_toNat_eq (Nat.eq_of_beq_eq_true h))
  · simp only [h8, if_false] at h ⊢
    exact zero_word (Nat.eq_of_beq_eq_true h)

/-- A sum over 256 places, one residue mod 8 of which counts. -/
theorem sum_residue (f : Fin 256 → EReal) (i : ℕ) (hi : i < 8) :
    (∑ c : Fin 256, if i = c.val % 8 then f c else 0) = ∑ n : Fin 32, f ⟨n.val * 8 + i, by omega⟩ := by
  rw [← (finProdFinEquiv (m := 32) (n := 8)).sum_comp, Fintype.sum_prod_type]
  refine Finset.sum_congr rfl fun n _ => ?_
  rw [Finset.sum_eq_single ⟨i, hi⟩]
  · rw [if_pos (by simp [finProdFinEquiv]; omega)]
    exact congrArg f (Fin.ext (by simp [finProdFinEquiv]; omega))
  · intro j _ hj
    rw [if_neg]
    intro h
    apply hj
    have := j.isLt
    simp [finProdFinEquiv] at h
    exact Fin.ext (show j.val = i by omega)
  · simp

/-- A row of the table times a column: the transform of the column's numbers in the row's residue. -/
theorem row_sum (v : Fin 256 → EReal) (r : ℕ) (hr : r < 272) :
    (∑ c : Fin 256, Ideal.ofBits .f32 (lit0t (r * 256 + c.val)) * v c)
      = ∑ n : Fin 32, coef (r / 16) (r / 8 % 2) n.val * v ⟨n.val * 8 + r % 8, by omega⟩ := by
  have h := sum_residue (fun c => coef (r / 16) (r / 8 % 2) (c.val / 8) * v c) (r % 8) (by omega)
  refine (Eq.trans ?_ h).trans ?_
  · refine Finset.sum_congr rfl fun c _ => ?_
    rw [entry hr c.isLt]
    split
    · rfl
    · exact zero_mul _
  · refine Finset.sum_congr rfl fun n _ => ?_
    simp only [show (n.val * 8 + r % 8) / 8 = n.val by omega]

end Cert.Kernel3Ideal.Fourier

end
-- ==== Proof.FourierRef.lean ====
/- What the plain Fourier program computes: at frequency `k` and part `p`, the sum over the 32 positions with one remainder
   mod 256 of the coefficient times the normed row. -/
module

public import proofs.«01_k».proof.Proof.Gen.Reference3Ideal.Run
public import proofs.«01_k».proof.Proof.Rows
public import Idealize.ShloMosaic.Lib.Pointwise

@[expose] public section

set_option maxRecDepth 16384

noncomputable section

open Idealize.ShloMosaic Idealize.ShloMosaic.TcCoe Idealize.SL.Sem

namespace Cert.Reference3Ideal.Fourier

open Cert.Reference3Ideal Cert.Reference3Ideal.Gen Cert.Rows

variable (h : FVec Ideal S2x8192x1024 .f32) (g : FVec Ideal S4x1024 .f32) (e e' : FVec Ideal S17x32 .f32)

/-- The normed rows of layer 1. -/
def normed : FVec Ideal S2x8192x1024 .f32 :=
  mulf (mulf h (broadcastInDim S2x8192x1024 ![0, 1, 2] bcast_S2x8192x1_S2x8192x1024_0_1_2 (Host.rsqrt (addf (Host.divf
    (broadcastInDim S2x8192x1 ![0, 1] bcast_S2x8192_S2x8192x1_0_1 (Host.reduceAdd (mulf h h) (constant S_ .f32 0x00000000#32)
      reducesTo_S2x8192x1024_S2x8192_d2 h_S_))
    (broadcastInDim S2x8192x1 ![] bcast_S_S2x8192x1 (constant S_ .f32 0x44800000#32)))
    (broadcastInDim S2x8192x1 ![] bcast_S_S2x8192x1 (constant S_ .f32 0x3727C5AC#32))))))
    (broadcastInDim S2x8192x1024 ![0, 1, 2] bcast_S1x1x1024_S2x8192x1024_0_1_2 (broadcastInDim S1x1x1024 ![2] bcast_S1024_S1x1x1024_2
      (shapeCast _ (extractStridedSlice S1x1024 ![1, 0] g slices_S4x1024_S1x1024_1_0) shapeCasts_S1x1024_S1024)))

/-- The normed rows, position `n * 256 + r` at `(n, r)`. -/
def rows : FVec Ideal S2x32x256x1024 .f32 := shapeCast _ (normed h g) shapeCasts_S2x8192x1024_S2x32x256x1024

/-- The sum over `n`, frequency last. -/
def sums (v : FVec Ideal S2x32x256x1024 .f32) : FVec Ideal S2x256x1024x17 .f32 :=
  Host.dotGeneral dot_S2x32x256x1024_S17x32_S2x256x1024x17_1_1_023_0_n_n none v e

/-- Frequency moved to the front, with a unit axis for the part. -/
def front (v : FVec Ideal S2x256x1024x17 .f32) : FVec Ideal S2x17x1x256x1024 .f32 :=
  broadcastInDim S2x17x1x256x1024 ![0, 1, 3, 4] bcast_S2x17x256x1024_S2x17x1x256x1024_0_1_3_4
    (transpose S2x17x256x1024 [0, 3, 1, 2] v transposes_S2x256x1024x17_S2x17x256x1024_0_3_1_2)

/-- One part of the transform, with the coefficients `e`. -/
def part : FVec Ideal S2x17x1x256x1024 .f32 := front (sums e (rows h g))

/-- The two parts side by side. -/
def both (v w : FVec Ideal S2x17x1x256x1024 .f32) : FVec Ideal S2x17x2x256x1024 .f32 :=
  concatenate S2x17x2x256x1024 2 [⟨S2x17x1x256x1024, v⟩, ⟨S2x17x1x256x1024, w⟩]
    concatenates_S2x17x1x256x1024_S2x17x1x256x1024_S2x17x2x256x1024_d2

/-- The positions in sixteen groups of sixteen, and the cast. -/
def grouped (v : FVec Ideal S2x17x2x256x1024 .f32) : FVec Ideal S2x17x2x16x16x1024 .bf16 :=
  truncf .bf16 (shapeCast _ v shapeCasts_S2x17x2x256x1024_S2x17x2x16x16x1024) bitsLt_bf16_f32

/-- The program's result over two tables of coefficients. -/
def result : FVec Ideal S2x17x2x16x16x1024 .bf16 := grouped (both (part h g e) (part h g e'))

theorem normed_ref (b : Fin 2) (s : Fin 8192) (q : Fin 1024) :
    normed h g (ix3 b s q) = rms (fun k => h (ix3 b s k)) (fun k => g (ix2 1 k)) q := by
  pointwise [normed, rms]

theorem rows_ref (b : Fin 2) (n : Fin 32) (r : Fin 256) (q : Fin 1024) :
    rows h g (ix4 b n r q) = normed h g (ix3 b ⟨n.val * 256 + r.val, by omega⟩ q) := by
  pointwise [rows]

theorem sums_ref (v : FVec Ideal S2x32x256x1024 .f32) (b : Fin 2) (r : Fin 256) (q : Fin 1024) (k : Fin 17) :
    sums e v (ix4 b r q k) = ∑ n : Fin 32, v (ix4 b n r q) * e (ix2 k n) := by
  pointwise [sums]

theorem front_ref (v : FVec Ideal S2x256x1024x17 .f32) (b : Fin 2) (k : Fin 17) (d : Fin 1) (r : Fin 256) (q : Fin 1024) :
    front v (ix5 b k d r q) = v (ix4 b r q k) := by
  pointwise [front]

theorem part_ref (b : Fin 2) (k : Fin 17) (d : Fin 1) (r : Fin 256) (q : Fin 1024) :
    part h g e (ix5 b k d r q)
      = ∑ n : Fin 32, e (ix2 k n) * rms (fun k => h (ix3 b ⟨n.val * 256 + r.val, by omega⟩ k)) (fun k => g (ix2 1 k)) q := by
  unfold part
  rw [front_ref, sums_ref]
  refine Finset.sum_congr rfl fun n _ => ?_
  rw [rows_ref, normed_ref]
  exact mul_comm _ _

theorem both_ref (v w : FVec Ideal S2x17x1x256x1024 .f32) (b : Fin 2) (k : Fin 17) (p : Fin 2) (r : Fin 256) (q : Fin 1024) :
    both v w (ix5 b k p r q) = (if p.val < 1 then v else w) (ix5 b k 0 r q) := by
  pointwise [both]
  split
  · next hp => rw [show (⟨p.val, by omega⟩ : Fin 1) = 0 from Fin.ext (by dsimp only; omega)]
  · next hp => rw [show (⟨p.val - 1, by omega⟩ : Fin 1) = 0 from Fin.ext (by dsimp only; omega)]

theorem grouped_ref (v : FVec Ideal S2x17x2x256x1024 .f32) (b : Fin 2) (k : Fin 17) (p : Fin 2) (j s : Fin 16) (q : Fin 1024) :
    grouped v (ix6 b k p j s q) = v (ix5 b k p ⟨j.val * 16 + s.val, by omega⟩ q) := by
  pointwise [grouped]

theorem result_ref (b : Fin 2) (k : Fin 17) (p : Fin 2) (j s : Fin 16) (q : Fin 1024) :
    result h g e e' (ix6 b k p j s q)
      = ∑ n : Fin 32, (if p.val < 1 then e else e') (ix2 k n)
          * rms (fun k => h (ix3 b ⟨n.val * 256 + (j.val * 16 + s.val), by omega⟩ k)) (fun k => g (ix2 1 k)) q := by
  unfold result
  rw [grouped_ref, both_ref]
  split
  · exact part_ref _ _ _ _ _ _ _ _
  · exact part_ref _ _ _ _ _ _ _ _

theorem lit0_val (i : Fin 544) : lit0 i = lit0t i.val := by
  rcases i with ⟨i, hi⟩
  rfl

theorem lit1_val (i : Fin 544) : lit1 i = lit1t i.val := by
  rcases i with ⟨i, hi⟩
  rfl

/-- The cosines' coefficients. -/
def cosines : FVec Ideal S17x32 .f32 := fun i => FloatOps.ofBits .f32 (lit0 (S17x32.rowMajor i))

/-- The negated sines' coefficients. -/
def sines : FVec Ideal S17x32 .f32 := fun i => FloatOps.ofBits .f32 (lit1 (S17x32.rowMajor i))

/-- The result over the program's own tables, as a function of its two arguments. -/
def value : FVec Ideal S2x17x2x16x16x1024 .bf16 := result h g cosines sines

theorem cosines_at (k : Fin 17) (n : Fin 32) : cosines (ix2 k n) = Ideal.ofBits .f32 (lit0t (k.val * 32 + n.val)) := by
  show Ideal.ofBits .f32 (lit0 (S17x32.rowMajor (ix2 k n))) = _
  refine (congrArg (Ideal.ofBits .f32) (lit0_val (S17x32.rowMajor (ix2 k n)))).trans ?_
  exact congrArg (fun i => Ideal.ofBits .f32 (lit0t i)) (Shape.rowMajor_val_two (ix2 k n))

theorem sines_at (k : Fin 17) (n : Fin 32) : sines (ix2 k n) = Ideal.ofBits .f32 (lit1t (k.val * 32 + n.val)) := by
  show Ideal.ofBits .f32 (lit1 (S17x32.rowMajor (ix2 k n))) = _
  refine (congrArg (Ideal.ofBits .f32) (lit1_val (S17x32.rowMajor (ix2 k n)))).trans ?_
  exact congrArg (fun i => Ideal.ofBits .f32 (lit1t i)) (Shape.rowMajor_val_two (ix2 k n))

end Cert.Reference3Ideal.Fourier

end
-- ==== Proof.FourierArray.lean ====
/- The first Fourier call's result array. Each input block is read as rows of the call's arguments, the table's block as the
   table; the table's row of a block element picks the 32 normed rows of the transform; the eight blocks tile the array; so
   the array is what the plain program computes. -/
module

public import proofs.«01_k».proof.Proof.FourierBlock
public import proofs.«01_k».proof.Proof.FourierTable
public import proofs.«01_k».proof.Proof.FourierRef
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.Fourier

open Cert.Kernel3Ideal Cert.Kernel3Ideal.Gen Cert.Rows

/-- Where each window's block sits at each of the eight points. -/
theorem idx : ∀ t : Fin cfg0.N, win0_0.index t = ![t.val / 4, 0, t.val % 4, 0, 0] ∧ win0_1.index t = ![0, 0] ∧ win0_2.index t = ![0, 0]
    ∧ win0_3.index t = ![t.val / 4, 0, 0, t.val % 4, 0, 0] :=
  (by decide +kernel : ∀ t : Fin grid0.N, _)

variable (m : (ℓ : Loc nD τ sig) → Buf (Elt Ideal) ℓ) (c : Dev nD) (t : Fin cfg0.N)

/-- Row `(n, j, s)` of the input block is position `n * 256 + (t % 4 * 4 + j) * 16 + s` of sequence `t / 4`. -/
theorem h_at (n : Fin 32) (j : Fin 4) (s : Fin 16) (b : Fin 2) (r : Fin 8192) (hb : (b : ℕ) = t.val / 4)
    (hr : (r : ℕ) = n.val * 256 + ((t.val % 4 * 4 + j.val) * 16 + s.val)) :
    (fun k : Fin 1024 => (show FVec Ideal S1x32x4x16x1024 .f32 from iblk m c 0 t) (ix5 0 n j s k))
      = fun k => (show FVec Ideal S2x8192x1024 .f32 from m ((c : Thread nD τ).loc main_arg0)) (ix3 b r k) := by
  funext k
  blk_point [iblk, V, idx t]

/-- The gains of layer 1. -/
theorem g_at : (fun k : Fin 1024 => (show FVec Ideal S4x1024 .f32 from iblk m c 1 t) (ix2 1 k))
      = fun k => (show FVec Ideal S4x1024 .f32 from m ((c : Thread nD τ).loc main_arg1)) (ix2 1 k) := by
  funext k
  blk_point [iblk, V, idx t]

/-- The table's element at a place is the word at that place. -/
theorem lit0_val (i : Fin 69632) : lit0 i = lit0t i.val := by
  rcases i with ⟨i, hi⟩
  rfl

/-- The table as an array over the ideal numbers. -/
def table : FVec Ideal S272x256 .bf16 := fun i => Ideal.ofBits .f32 (lit0 (S272x256.rowMajor i))

/-- Its element at a row and a column. -/
theorem table_eq (r : Fin 272) (k : Fin 256) : table (ix2 r k) = Ideal.ofBits .f32 (lit0t (r.val * 256 + k.val)) := by
  refine (congrArg (Ideal.ofBits .f32) (lit0_val (S272x256.rowMajor (ix2 r k)))).trans ?_
  exact congrArg (fun i => Ideal.ofBits .f32 (lit0t i)) (Shape.rowMajor_val_two (ix2 r k))

/-- What the call finds in its third window's array. -/
theorem V_table : V m c main_v0 = table := by
  unfold V hostOps0
  after_results
  rfl

/-- The table, whole at every point. -/
theorem table_at (r : Fin 272) (k : Fin 256) :
    (show FVec Ideal S272x256 .bf16 from iblk m c 2 t) (ix2 r k) = Ideal.ofBits .f32 (lit0t (r.val * 256 + k.val)) := by
  rw [← table_eq]
  show ((cfg0.win 2).blk t).view.read (Elt Ideal) (V m c main_v0) (ix2 r k) = _
  rw [V_table]
  generalize table = T
  blk_point [idx t]

/-- A coefficient of the plain program is the transform's. -/
theorem coef_eq (k : Fin 17) (p : Fin 2) (n : Fin 32) :
    (if p.val < 1 then Cert.Reference3Ideal.Fourier.cosines else Cert.Reference3Ideal.Fourier.sines) (ix2 k n) = coef k.val p.val n.val := by
  unfold coef
  by_cases hp : p.val = 0
  · rw [if_pos (by omega), if_pos hp]
    exact Cert.Reference3Ideal.Fourier.cosines_at k n
  · rw [if_neg (by omega), if_neg hp]
    exact Cert.Reference3Ideal.Fourier.sines_at k n

/-- The plain program's result over this program's arguments. -/
abbrev plain : FVec Ideal S2x17x2x16x16x1024 .bf16 :=
  Cert.Reference3Ideal.Fourier.value (m ((c : Thread nD τ).loc main_arg0)) (m ((c : Thread nD τ).loc main_arg1))

/-- The normed row at a place of the block. -/
def rowAt (n : Fin 32) (j : Fin 4) (s : Fin 16) (q : Fin 1024) : EReal :=
  rms (fun k => (show FVec Ideal S1x32x4x16x1024 .f32 from iblk m c 0 t) (ix5 0 n j s k))
    (fun k => (show FVec Ideal S4x1024 .f32 from iblk m c 1 t) (ix2 1 k)) q

/-- An element of the block of point `t` is the plain program's element at sequence `t / 4`, group `t % 4 * 4 + j`. -/
theorem point (k : Fin 17) (p : Fin 2) (j : Fin 4) (s : Fin 16) (q : Fin 1024) (b : Fin 2) (i : Fin 16) (hb : (b : ℕ) = t.val / 4)
    (hi : (i : ℕ) = t.val % 4 * 4 + j) (a : Fin 1) :
    outBlk (iblk m c 0 t) (iblk m c 1 t) (iblk m c 2 t) (ix6 a k p j s q) = plain m c (ix6 b k p i s q) := by
  rw [plain, Cert.Reference3Ideal.Fourier.value, Cert.Reference3Ideal.Fourier.result_ref]
  have hr : (k.val * 2 + p.val) * 8 + s.val % 8 < 272 := by omega
  have e := row_sum (fun c' => rowAt m c t ⟨c'.val / 8, by omega⟩ j ⟨s.val / 8 * 8 + c'.val % 8, by omega⟩ q)
    ((k.val * 2 + p.val) * 8 + s.val % 8) hr
  refine (Eq.trans ?_ e).trans ?_
  · refine Finset.sum_congr rfl fun c' _ => ?_
    exact congrArg₂ _ (table_at m c t ⟨(k.val * 2 + p.val) * 8 + s.val % 8, hr⟩ c') rfl
  · refine Finset.sum_congr rfl fun n _ => ?_
    refine congrArg₂ _ ?_ ?_
    · rw [coef_eq]
      rw [show ((k.val * 2 + p.val) * 8 + s.val % 8) / 16 = k.val by omega,
        show ((k.val * 2 + p.val) * 8 + s.val % 8) / 8 % 2 = p.val by omega]
    · have en : (⟨(n.val * 8 + ((k.val * 2 + p.val) * 8 + s.val % 8) % 8) / 8, by omega⟩ : Fin 32) = n := Fin.ext (by dsimp only; omega)
      have es : (⟨s.val / 8 * 8 + (n.val * 8 + ((k.val * 2 + p.val) * 8 + s.val % 8) % 8) % 8, by omega⟩ : Fin 16) = s :=
        Fin.ext (by dsimp only; omega)
      refine (congrArg₂ (fun n s => rowAt m c t n j s q) en es).trans ?_
      unfold rowAt
      exact congrFun (congrArg₂ rms (h_at m c t n j s b ⟨n.val * 256 + (i.val * 16 + s.val), by omega⟩ hb (by dsimp only; omega))
        (g_at m c t)) q

/-- The result array after the run is the plain program's result. -/
theorem final : (dats m 0 c).arrAt 3 cfg0.N = plain m c := by
  refine (dats m 0 c).arrAt_eq_of_covers 3 _ (by decide +kernel) fun t _ y => ?_
  blk_simp
  rw [after0_3, out_eq]
  idx_vars y
  have ht : t.val < 8 := lt_of_lt_of_eq t.isLt N_0
  refine (point m c t y1 y2 y3 y4 y5 ⟨t.val / 4, by omega⟩ ⟨t.val % 4 * 4 + y3, by omega⟩ rfl rfl y0).trans (congrArg _ ?_)
  blk_ext [idx t]

end Cert.Kernel3Ideal.Fourier

end
-- ==== Proof.FourierClaim.lean ====
/- The first Fourier call and the plain program end with equal results. -/
module

public import proofs.«01_k».proof.Defs
public import proofs.«01_k».proof.Proof.FourierArray
public import proofs.«01_k».proof.Proof.Gen.Kernel3Ideal
public import proofs.«01_k».proof.Proof.Gen.Reference3Ideal
public import Idealize.ShloMosaic.Lib.Claim

@[expose] public section

set_option maxRecDepth 16384

noncomputable section

open Idealize.ShloMosaic Idealize.ShloMosaic.TcCoe Idealize.SL.Sem

namespace Cert.Proof

/-- From agreeing arguments the call's result array and the plain program's are equal over the ideal numbers: both are the
    32-point transform, at its first 17 frequencies, of the normed rows. -/
theorem algebraic_fourier : Cert.algebraic_Kernel3Ideal_Reference3Ideal := by
  pair_intro
  · run_from Cert.Kernel3Ideal.Value.run_blocks m g
  · run_from Cert.Reference3Ideal.Value.run m' g'
    exact (Cert.Kernel3Ideal.Fourier.final m c).symm

end Cert.Proof

end
-- ==== Proof.FfnMidBlock.lean ====
/- What one grid point of the feed-forward call computes in a layer that is not the last. The body stores its residual block in two halves of 512 rows, the
   normalised block in two halves as well, and the gated hidden block in eleven pieces of 256 columns; read back, each is the
   row function of the block's rows, so the block written out is the layer's row function of each row. -/
module

public import proofs.«01_k».proof.Proof.Gen.Kernel4Ideal.Value
public import proofs.«01_k».proof.Proof.Rows
public import proofs.«01_k».proof.Proof.Blocks
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel4Ideal.FfnMid

open Cert.Kernel4Ideal Cert.Kernel4Ideal.Gen Cert.Rows Cert.Blocks

/-- The residual block: every row's input plus its mixer row times the output projection. -/
def residBlk (h : Vec Ideal S1024x1024 .f32) (m wo : Vec Ideal S1024x1024 .bf16) : Vec Ideal S1024x1024 .f32 := fun y =>
  resid (fun k => h (ix2 (y 0) k)) (fun k => m (ix2 (y 0) k)) (fun k l => wo (ix2 k l)) (y 1)

/-- The normalised block: every residual row over its root mean square, times row 2 of the gains. -/
def normBlk (h : Vec Ideal S1024x1024 .f32) (m wo : Vec Ideal S1024x1024 .bf16) (g : Vec Ideal S4x1024 .f32) :
    Vec Ideal S1024x1024 .bf16 := fun y =>
  rms (resid (fun k => h (ix2 (y 0) k)) (fun k => m (ix2 (y 0) k)) (fun k l => wo (ix2 k l))) (fun k => g (ix2 2 k)) (y 1)

/-- The gated hidden block of a normalised block. -/
def hiddenBlk (hn : Vec Ideal S1024x1024 .bf16) (wg wu : Vec Ideal S1024x2816 .bf16) : Vec Ideal S1024x2816 .bf16 := fun y =>
  hidden (fun k => hn (ix2 (y 0) k)) (fun k l => wg (ix2 k l)) (fun k l => wu (ix2 k l)) (y 1)

/-- The two halves of the residual block, stored one after the other, are the residual of every row. -/
theorem resid_canon (h : Vec Ideal S1024x1024 .f32) (m wo : Vec Ideal S1024x1024 .bf16) :
    View.canon ([⟨Rect.unit ![512, 0] ![512, 1024] inb_S1024x1024_S512x1024_512_0,
         k0_pay3 (View.ld h (Rect.unit ![512, 0] ![512, 1024] inb_S1024x1024_S512x1024_512_0))
           (View.ld m (Rect.unit ![512, 0] ![512, 1024] inb_S1024x1024_S512x1024_512_0)) wo⟩,
       ⟨Rect.unit ![0, 0] ![512, 1024] inb_S1024x1024_S512x1024_0_0,
         k0_pay1 (View.ld h (Rect.unit ![0, 0] ![512, 1024] inb_S1024x1024_S512x1024_0_0))
           (View.ld m (Rect.unit ![0, 0] ![512, 1024] inb_S1024x1024_S512x1024_0_0)) wo⟩] : List (View.Piece (Elt Ideal) S1024x1024 .f32))
      = residBlk h m wo := by
  funext y
  canon_tiles x h
  all_goals (pointwise [k0_pay3, k0_pay1, residBlk, resid, mat]; blk_point [])

/-- The two halves of the normalised block are the norm of every residual row. -/
theorem norm_canon (h : Vec Ideal S1024x1024 .f32) (m wo : Vec Ideal S1024x1024 .bf16) (g : Vec Ideal S4x1024 .f32) :
    View.canon ([⟨Rect.unit ![512, 0] ![512, 1024] inb_S1024x1024_S512x1024_512_0,
         k0_pay4 (k0_pay3 (View.ld h (Rect.unit ![512, 0] ![512, 1024] inb_S1024x1024_S512x1024_512_0))
           (View.ld m (Rect.unit ![512, 0] ![512, 1024] inb_S1024x1024_S512x1024_512_0)) wo)
           (View.ld g (Rect.unit ![2, 0] ![1, 1024] inb_S4x1024_S1x1024_2_0))⟩,
       ⟨Rect.unit ![0, 0] ![512, 1024] inb_S1024x1024_S512x1024_0_0,
         k0_pay2 (View.ld h (Rect.unit ![0, 0] ![512, 1024] inb_S1024x1024_S512x1024_0_0))
           (View.ld m (Rect.unit ![0, 0] ![512, 1024] inb_S1024x1024_S512x1024_0_0)) wo
           (View.ld g (Rect.unit ![2, 0] ![1, 1024] inb_S4x1024_S1x1024_2_0))⟩] : List (View.Piece (Elt Ideal) S1024x1024 .bf16))
      = normBlk h m wo g := by
  funext y
  canon_tiles x h
  all_goals (pointwise [k0_pay4, k0_pay3, k0_pay2, k0_pay1, normBlk, rms, resid, mat]; blk_point [])

/-- The eleven pieces of the hidden block, 256 columns each, are the gated hidden row of every normalised row. -/
theorem hidden_canon (hn : Vec Ideal S1024x1024 .bf16) (wg wu : Vec Ideal S1024x2816 .bf16) :
    View.canon ([⟨Rect.unit ![0, 2560] ![1024, 256] inb_S1024x2816_S1024x256_0_2560, k0_pay21 hn (View.ld wg (Rect.unit ![0, 2560] ![1024, 256] inb_S1024x2816_S1024x256_0_2560)) hn (View.ld wu (Rect.unit ![0, 2560] ![1024, 256] inb_S1024x2816_S1024x256_0_2560))⟩,
       ⟨Rect.unit ![0, 2304] ![1024, 256] inb_S1024x2816_S1024x256_0_2304, k0_pay20 (k0_pay17 hn (View.ld wg (Rect.unit ![0, 2304] ![1024, 256] inb_S1024x2816_S1024x256_0_2304))) (k0_pay18 hn (View.ld wu (Rect.unit ![0, 2304] ![1024, 256] inb_S1024x2816_S1024x256_0_2304))) (k0_pay19 hn (View.ld wg (Rect.unit ![0, 2304] ![1024, 256] inb_S1024x2816_S1024x256_0_2304)))⟩,
       ⟨Rect.unit ![0, 2048] ![1024, 256] inb_S1024x2816_S1024x256_0_2048, k0_pay16 hn (View.ld wg (Rect.unit ![0, 2048] ![1024, 256] inb_S1024x2816_S1024x256_0_2048)) hn (View.ld wu (Rect.unit ![0, 2048] ![1024, 256] inb_S1024x2816_S1024x256_0_2048))⟩,
       ⟨Rect.unit ![0, 1792] ![1024, 256] inb_S1024x2816_S1024x256_0_1792, k0_pay15 (k0_pay14 hn (View.ld wg (Rect.unit ![0, 1792] ![1024, 256] inb_S1024x2816_S1024x256_0_1792))) hn (View.ld wu (Rect.unit ![0, 1792] ![1024, 256] inb_S1024x2816_S1024x256_0_1792))⟩,
       ⟨Rect.unit ![0, 1536] ![1024, 256] inb_S1024x2816_S1024x256_0_1536, k0_pay13 hn (View.ld wg (Rect.unit ![0, 1536] ![1024, 256] inb_S1024x2816_S1024x256_0_1536)) hn (View.ld wu (Rect.unit ![0, 1536] ![1024, 256] inb_S1024x2816_S1024x256_0_1536))⟩,
       ⟨Rect.unit ![0, 1280] ![1024, 256] inb_S1024x2816_S1024x256_0_1280, k0_pay12 (k0_pay11 hn (View.ld wg (Rect.unit ![0, 1280] ![1024, 256] inb_S1024x2816_S1024x256_0_1280))) hn (View.ld wu (Rect.unit ![0, 1280] ![1024, 256] inb_S1024x2816_S1024x256_0_1280))⟩,
       ⟨Rect.unit ![0, 1024] ![1024, 256] inb_S1024x2816_S1024x256_0_1024, k0_pay10 hn (View.ld wg (Rect.unit ![0, 1024] ![1024, 256] inb_S1024x2816_S1024x256_0_1024)) hn (View.ld wu (Rect.unit ![0, 1024] ![1024, 256] inb_S1024x2816_S1024x256_0_1024))⟩,
       ⟨Rect.unit ![0, 768] ![1024, 256] inb_S1024x2816_S1024x256_0_768, k0_pay9 hn (k0_pay8 (View.ld wg (Rect.unit ![0, 768] ![1024, 256] inb_S1024x2816_S1024x256_0_768))) hn (View.ld wu (Rect.unit ![0, 768] ![1024, 256] inb_S1024x2816_S1024x256_0_768))⟩,
       ⟨Rect.unit ![0, 512] ![1024, 256] inb_S1024x2816_S1024x256_0_512, k0_pay7 hn (View.ld wg (Rect.unit ![0, 512] ![1024, 256] inb_S1024x2816_S1024x256_0_512)) hn (View.ld wu (Rect.unit ![0, 512] ![1024, 256] inb_S1024x2816_S1024x256_0_512))⟩,
       ⟨Rect.unit ![0, 256] ![1024, 256] inb_S1024x2816_S1024x256_0_256, k0_pay6 hn (View.ld wg (Rect.unit ![0, 256] ![1024, 256] inb_S1024x2816_S1024x256_0_256)) hn (View.ld wu (Rect.unit ![0, 256] ![1024, 256] inb_S1024x2816_S1024x256_0_256))⟩,
       ⟨Rect.unit ![0, 0] ![1024, 256] inb_S1024x2816_S1024x256_0_0, k0_pay5 hn (View.ld wg (Rect.unit ![0, 0] ![1024, 256] inb_S1024x2816_S1024x256_0_0)) hn (View.ld wu (Rect.unit ![0, 0] ![1024, 256] inb_S1024x2816_S1024x256_0_0))⟩] : List (View.Piece (Elt Ideal) S1024x2816 .bf16))
      = hiddenBlk hn wg wu := by
  funext y
  canon_tiles x h
  all_goals (open_payloads; pointwise [hiddenBlk, Cert.Rows.hidden, mat]; blk_point [])

/-- The last store: residual plus the down projection. -/
theorem out_pay (r : Vec Ideal S1024x1024 .f32) (hd : Vec Ideal S1024x2816 .bf16) (wd : Vec Ideal S2816x1024 .bf16) (y : S1024x1024.Idx) :
    k0_pay22 r hd wd y = r (ix2 (y 0) (y 1)) + mat (fun f => hd (ix2 (y 0) f)) (fun f q => wd (ix2 f q)) (y 1) := by
  pointwise [k0_pay22, mat]

/-- The block as a function of the staged input blocks: the layer's row function of every row. -/
def outBlk (h : Vec Ideal S1024x1024 .f32) (m : Vec Ideal S1024x1024 .bf16) (g : Vec Ideal S4x1024 .f32)
    (wo : Vec Ideal S1024x1024 .bf16) (wg wu : Vec Ideal S1024x2816 .bf16) (wd : Vec Ideal S2816x1024 .bf16) :
    Vec Ideal S1024x1024 .f32 := fun y =>
  ffn (fun k => h (ix2 (y 0) k)) (fun k => m (ix2 (y 0) k)) (fun k l => wo (ix2 k l)) (fun k => g (ix2 2 k))
    (fun k l => wg (ix2 k l)) (fun k l => wu (ix2 k l)) (fun k l => wd (ix2 k l)) (y 1)

/-- What the body leaves in the output's buffer at point `t`. -/
theorem block (m : (ℓ : Loc nD τ sig) → Buf (Elt Ideal) ℓ) (c : Dev nD) (t : Fin cfg0.N) :
    outsAt0 m c t = outBlk (iblk m c 0 t) (iblk m c 1 t) (iblk m c 2 t) (iblk m c 3 t) (iblk m c 4 t) (iblk m c 5 t)
      (iblk m c 6 t) := by
  funext y
  unfold outsAt0
  frame_out
  simp only [readCov_all (S := S1024x1024) _ _ zero2, readCov_all (S := S1024x2816) _ _ zero2, resid_canon, norm_canon, hidden_canon]
  exact out_pay _ _ _ y

end Cert.Kernel4Ideal.FfnMid

end
-- ==== Proof.FfnMidRef.lean ====
/- What the plain feed-forward program of layer 2 computes: each element of its result is the layer's row function of the
   row it stands in. -/
module

public import proofs.«01_k».proof.Proof.Gen.Reference4Ideal.Read
public import proofs.«01_k».proof.Proof.Rows
public import Idealize.ShloMosaic.Lib.Pointwise

@[expose] public section

set_option maxRecDepth 16384

noncomputable section

open Idealize.ShloMosaic Idealize.ShloMosaic.TcCoe Idealize.SL.Sem

namespace Cert.Reference4Ideal.FfnMid

open Cert.Reference4Ideal Cert.Reference4Ideal.Gen Cert.Reference4Ideal.Read Cert.Rows

variable (h : FVec Ideal S2x8192x1024 .f32) (m : FVec Ideal S2x8192x1024 .bf16) (wo : FVec Ideal S2x1024x1024 .f32)
  (g : FVec Ideal S4x1024 .f32) (wg wu : FVec Ideal S4x1024x2816 .f32) (wd : FVec Ideal S4x2816x1024 .f32)

/-- The residual after the output projection. -/
theorem resid_ref (b : Fin 2) (s : Fin 8192) (q : Fin 1024) :
    val_main_v4 (F := Ideal) h m wo (ix3 b s q)
      = resid (fun k => h (ix3 b s k)) (fun k => m (ix3 b s k)) (fun k l => wo (ix3 1 k l)) q := by
  pointwise [val_main_v4, val_main_v3, val_main_v2, val_main_v1, val_main_v0, resid, mat]

/-- The normalised row. -/
theorem norm_ref (b : Fin 2) (s : Fin 8192) (q : Fin 1024) :
    val_main_v19 (F := Ideal) h m wo g (ix3 b s q)
      = rms (resid (fun k => h (ix3 b s k)) (fun k => m (ix3 b s k)) (fun k l => wo (ix3 1 k l))) (fun k => g (ix2 2 k)) q := by
  pointwise [val_main_v19, val_main_v18, val_main_v17, val_main_v16, val_main_v15, val_main_v14, val_main_v13, val_main_v12,
    val_main_cst_1, val_main_v11, val_main_v10, val_main_cst_0, val_main_v9, val_main_v8, val_main_cst, val_main_v7, val_main_v6,
    val_main_v5, resid_ref, rms]

/-- The gated hidden row. -/
theorem hidden_ref (b : Fin 2) (s : Fin 8192) (f : Fin 2816) :
    val_main_v27 (F := Ideal) h m wo g wg wu (ix3 b s f)
      = hidden (rms (resid (fun k => h (ix3 b s k)) (fun k => m (ix3 b s k)) (fun k l => wo (ix3 1 k l))) (fun k => g (ix2 2 k)))
          (fun k l => wg (ix3 2 k l)) (fun k l => wu (ix3 2 k l)) f := by
  pointwise [val_main_v27, val_main_v26, val_main_call0_v5, val_main_call0_v4, val_main_call0_cst_0, val_main_call0_v3, val_main_call0_v2,
    val_main_call0_cst, val_main_call0_v1, val_main_call0_v0, val_main_v25, val_main_v24, val_main_v23, val_main_v22, val_main_v21,
    val_main_v20, norm_ref, Cert.Rows.hidden, mat, Ideal.logistic]

/-- The layer's row. -/
theorem ffn_ref (b : Fin 2) (s : Fin 8192) (q : Fin 1024) :
    val_main_v31 (F := Ideal) h m wo g wg wu wd (ix3 b s q)
      = ffn (fun k => h (ix3 b s k)) (fun k => m (ix3 b s k)) (fun k l => wo (ix3 1 k l)) (fun k => g (ix2 2 k))
          (fun k l => wg (ix3 2 k l)) (fun k l => wu (ix3 2 k l)) (fun k l => wd (ix3 2 k l)) q := by
  pointwise [val_main_v31, val_main_v30, val_main_v29, val_main_v28, hidden_ref, resid_ref, ffn, mat]

/-- The result, row `r` of 16384 being position `r % 8192` of sequence `r / 8192`. -/
theorem out_ref (r : Fin 16384) (q : Fin 1024) (b : Fin 2) (s : Fin 8192) (hb : (b : ℕ) = r / 8192) (hs : (s : ℕ) = r % 8192) :
    val_main_v32 (F := Ideal) h m wo g wg wu wd (ix2 r q)
      = ffn (fun k => h (ix3 b s k)) (fun k => m (ix3 b s k)) (fun k l => wo (ix3 1 k l)) (fun k => g (ix2 2 k))
          (fun k l => wg (ix3 2 k l)) (fun k l => wu (ix3 2 k l)) (fun k l => wd (ix3 2 k l)) q := by
  obtain rfl : b = ⟨r / 8192, Nat.div_lt_of_lt_mul r.isLt⟩ := Fin.ext hb
  obtain rfl : s = ⟨r % 8192, Nat.mod_lt _ (by decide)⟩ := Fin.ext hs
  pointwise [val_main_v32, ffn_ref]

end Cert.Reference4Ideal.FfnMid

end
-- ==== Proof.FfnMidArray.lean ====
/- The result array of layer 2's feed-forward call. Each input block is read as rows and matrices of the call's arguments; the sixteen
   blocks tile the array; so the array is what the plain program computes. -/
module

public import proofs.«01_k».proof.Proof.FfnMidBlock
public import proofs.«01_k».proof.Proof.FfnMidRef
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel4Ideal.FfnMid

open Cert.Kernel4Ideal Cert.Kernel4Ideal.Gen Cert.Rows

/-- Where each window's block sits at each of the sixteen points. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![t.val, 0] :=
  (by decide +kernel : ∀ t : Fin grid0.N, _)

variable (m : (ℓ : Loc nD τ sig) → Buf (Elt Ideal) ℓ) (c : Dev nD) (t : Fin cfg0.N)

/-- Row `p` of the input block at point `t` is row `t * 1024 + p` of the array, taken as rows of the two sequences. -/
theorem h_at (p : Fin 1024) (b : Fin 2) (s : Fin 8192) (hb : (b : ℕ) = t.val / 8) (hs : (s : ℕ) = t.val % 8 * 1024 + p) :
    (fun k : Fin 1024 => (show FVec Ideal S1024x1024 .f32 from iblk m c 0 t) (ix2 p k))
      = fun k => (show FVec Ideal S2x8192x1024 .f32 from m ((c : Thread nD τ).loc main_arg0)) (ix3 b s k) := by
  funext k
  blk_point [iblk, V, idx t]

/-- The mixer rows likewise. -/
theorem m_at (p : Fin 1024) (b : Fin 2) (s : Fin 8192) (hb : (b : ℕ) = t.val / 8) (hs : (s : ℕ) = t.val % 8 * 1024 + p) :
    (fun k : Fin 1024 => (show FVec Ideal S1024x1024 .bf16 from iblk m c 1 t) (ix2 p k))
      = fun k => (show FVec Ideal S2x8192x1024 .bf16 from m ((c : Thread nD τ).loc main_arg1)) (ix3 b s k) := by
  funext k
  blk_point [iblk, V, idx t]

/-- The gains of layer 2. -/
theorem g_at : (fun k : Fin 1024 => (show FVec Ideal S4x1024 .f32 from iblk m c 2 t) (ix2 2 k))
      = fun k => (show FVec Ideal S4x1024 .f32 from m ((c : Thread nD τ).loc main_arg3)) (ix2 2 k) := by
  funext k
  blk_point [iblk, V, idx t]

/-- The output projection, whole at every point: the second of the stacked matrices. -/
theorem wo_at : (fun k l : Fin 1024 => (show FVec Ideal S1024x1024 .bf16 from iblk m c 3 t) (ix2 k l))
      = fun k l => (show FVec Ideal S2x1024x1024 .f32 from m ((c : Thread nD τ).loc main_arg2)) (ix3 1 k l) := by
  funext k l
  blk_point [iblk, V, idx t]

/-- The gate projection of layer 2. -/
theorem wg_at : (fun (k : Fin 1024) (l : Fin 2816) => (show FVec Ideal S1024x2816 .bf16 from iblk m c 4 t) (ix2 k l))
      = fun k l => (show FVec Ideal S4x1024x2816 .f32 from m ((c : Thread nD τ).loc main_arg4)) (ix3 2 k l) := by
  funext k l
  blk_point [iblk, V, idx t]

/-- The up projection of layer 2. -/
theorem wu_at : (fun (k : Fin 1024) (l : Fin 2816) => (show FVec Ideal S1024x2816 .bf16 from iblk m c 5 t) (ix2 k l))
      = fun k l => (show FVec Ideal S4x1024x2816 .f32 from m ((c : Thread nD τ).loc main_arg5)) (ix3 2 k l) := by
  funext k l
  blk_point [iblk, V, idx t]

/-- The down projection of layer 2. -/
theorem wd_at : (fun (k : Fin 2816) (l : Fin 1024) => (show FVec Ideal S2816x1024 .bf16 from iblk m c 6 t) (ix2 k l))
      = fun k l => (show FVec Ideal S4x2816x1024 .f32 from m ((c : Thread nD τ).loc main_arg6)) (ix3 2 k l) := by
  funext k l
  blk_point [iblk, V, idx t]

/-- The plain program's result over this program's arguments. -/
abbrev plain : FVec Ideal S16384x1024 .f32 :=
  Cert.Reference4Ideal.Read.val_main_v32 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- Element `(p, q)` of the block of point `t` is the plain program's element at row `t * 1024 + p`. -/
theorem point (p q : Fin 1024) (r : Fin 16384) (hr : (r : ℕ) = t.val * 1024 + p) :
    outBlk (iblk m c 0 t) (iblk m c 1 t) (iblk m c 2 t) (iblk m c 3 t) (iblk m c 4 t) (iblk m c 5 t) (iblk m c 6 t) (ix2 p q)
      = plain m c (ix2 r q) := by
  have ht : t.val < 16 := lt_of_lt_of_eq t.isLt N_0
  have hp : p.val < 1024 := p.isLt
  rw [plain, Cert.Reference4Ideal.FfnMid.out_ref _ _ _ _ _ _ _ r q ⟨t.val / 8, by omega⟩ ⟨t.val % 8 * 1024 + p, by omega⟩
    (by show t.val / 8 = r.val / 8192; omega) (by show t.val % 8 * 1024 + p.val = r.val % 8192; omega)]
  have e0 := h_at m c t p ⟨t.val / 8, by omega⟩ ⟨t.val % 8 * 1024 + p, by omega⟩ rfl rfl
  have e1 := m_at m c t p ⟨t.val / 8, by omega⟩ ⟨t.val % 8 * 1024 + p, by omega⟩ rfl rfl
  unfold outBlk
  rw [← e0, ← e1, ← g_at m c t, ← wo_at m c t, ← wg_at m c t, ← wu_at m c t, ← wd_at m c t]
  rfl

/-- The result array after the run is the plain program's result. -/
theorem final : (dats m 0 c).arrAt 8 cfg0.N = plain m c := by
  refine (dats m 0 c).arrAt_eq_of_covers 8 _ (by decide +kernel) fun t _ y => ?_
  blk_simp
  rw [after0_8, block]
  idx_vars y
  have ht : t.val < 16 := lt_of_lt_of_eq t.isLt N_0
  refine (point m c t y0 y1 ⟨t.val * 1024 + y0, by omega⟩ rfl).trans (congrArg _ ?_)
  blk_ext [idx t]

end Cert.Kernel4Ideal.FfnMid

end
-- ==== Proof.FfnMidClaim.lean ====
/- The feed-forward call of layer 2 and its plain program end with equal results. -/
module

public import proofs.«01_k».proof.Defs
public import proofs.«01_k».proof.Proof.FfnMidArray
public import proofs.«01_k».proof.Proof.Gen.Kernel4Ideal
public import proofs.«01_k».proof.Proof.Gen.Reference4Ideal
public import Idealize.ShloMosaic.Lib.Claim

@[expose] public section

set_option maxRecDepth 16384

noncomputable section

open Idealize.ShloMosaic Idealize.ShloMosaic.TcCoe Idealize.SL.Sem

namespace Cert.Proof

/-- From agreeing arguments the call's result array and the plain program's are equal over the ideal numbers: both are the
    layer's row function of every row. -/
theorem algebraic_ffn_mid : Cert.algebraic_Kernel4Ideal_Reference4Ideal := by
  pair_intro
  · run_from Cert.Kernel4Ideal.Value.run_blocks m g
  · run_from Cert.Reference4Ideal.Value.run m' g'
    rw [Cert.Reference4Ideal.Read.val_main_v32_eq]
    rw [(hagree c).1, (hagree c).2.1, (hagree c).2.2.1, (hagree c).2.2.2.1, (hagree c).2.2.2.2.1, (hagree c).2.2.2.2.2.1,
      (hagree c).2.2.2.2.2.2.1]
    exact (Cert.Kernel4Ideal.FfnMid.final m c).symm

end Cert.Proof

end
-- ==== Proof.ConvCastBlock.lean ====
/- What one grid point of the convolution call of layer 2 computes. -/
module

public import proofs.«01_k».proof.Proof.Gen.Kernel5Ideal.Value
public import proofs.«01_k».proof.Proof.Rows
public import proofs.«01_k».proof.Proof.Blocks
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel5Ideal.ConvCast

open Cert.Kernel5Ideal Cert.Kernel5Ideal.Gen Cert.Rows Cert.Blocks

/-- The stacked normed rows: the eight after the block, the eight before it, the block's own. -/
abbrev stack (g : Vec Ideal S1x1024 .f32) (N P : Vec Ideal S1x8x1024 .f32) (X : Vec Ideal S1x1024x1024 .f32) : Vec Ideal S1040x1024 .bf16 :=
  k0_pay14 g (k0_pay11 g N) (k0_pay12 P) (k0_pay13 P) (Scalar.ofBits .f32 0x44800000#32) X

/-- The first eight rows of the stack are the eight rows after the block. -/
theorem normed_next (g : Vec Ideal S1x1024 .f32) (N P : Vec Ideal S1x8x1024 .f32) (X : Vec Ideal S1x1024x1024 .f32)
    (j : Fin 8) (q : Fin 1024) :
    stack g N P X (ix2 ⟨j.val, by omega⟩ q) = rms (fun k => N (ix3 0 j k)) (fun k => g (ix2 0 k)) q := by
  pointwise [stack, k0_pay14, k0_pay11, rms]

/-- The next eight are the eight rows before the block. -/
theorem normed_prev (g : Vec Ideal S1x1024 .f32) (N P : Vec Ideal S1x8x1024 .f32) (X : Vec Ideal S1x1024x1024 .f32)
    (j : Fin 8) (q : Fin 1024) :
    stack g N P X (ix2 ⟨8 + j.val, by omega⟩ q) = rms (fun k => P (ix3 0 j k)) (fun k => g (ix2 0 k)) q := by
  pointwise [stack, k0_pay14, k0_pay12, k0_pay13, rms]

/-- The rest are the block's own rows. -/
theorem normed_main (g : Vec Ideal S1x1024 .f32) (N P : Vec Ideal S1x8x1024 .f32) (X : Vec Ideal S1x1024x1024 .f32)
    (j : Fin 1024) (q : Fin 1024) :
    stack g N P X (ix2 ⟨16 + j.val, by omega⟩ q) = rms (fun k => X (ix3 0 j k)) (fun k => g (ix2 0 k)) q := by
  pointwise [stack, k0_pay14, rms]
  rw [dif_neg (by omega), dif_neg (by omega)]
  simp only [show 16 + j.val - 8 - 8 = j.val by omega]

section

variable (g : Vec Ideal S1x1024 .f32) (A B : FVec Ideal S8x1024 .f32) (C : FVec Ideal S8x1 .f32) (n : Ideal .f32)
  (X : Vec Ideal S1x1024x1024 .f32) (wc wv wb : Vec Ideal S1024x1024 .bf16)

/-- The gated product of the stack's rows: the middle third's projection times the last third's. -/
theorem gated_at (j : Fin 1040) (q : Fin 1024) : k0_pay15 g A B C n X wc wv (ix2 j q)
    = mat (fun k => k0_pay14 g A B C n X (ix2 j k)) (fun k l => wc (ix2 k l)) q
      * mat (fun k => k0_pay14 g A B C n X (ix2 j k)) (fun k l => wv (ix2 k l)) q := by
  unfold k0_pay15
  generalize k0_pay14 g A B C n X = xn
  pointwise [mat]

/-- The three-tap step, entry by entry: the neighbour above row `r` of the block is the row before it, the block's first row taking
    the last of the eight rows before the block, or zero at the start of the sequence; likewise below. -/
theorem taps_at (i : BitVec 32) (kk : FVec Ideal S3x1024 .f32) (r q : Fin 1024) (U : Fin 1040 → EReal)
    (hU : ∀ j, k0_pay15 g A B C n X wc wv (ix2 j q) = U j) :
    k0_pay1 kk (k0_pay14 g A B C n X) (k0_pay16 g A B C n X wc wv) (k0_pay17 i g A B C n X wc wv) 1#32 wb (ix3 0 r q)
      = taps (mat (fun k => k0_pay14 g A B C n X (ix2 ⟨16 + r.val, by omega⟩ k)) (fun k l => wb (ix2 k l)) q)
          (kk (ix2 0 q)) (kk (ix2 1 q)) (kk (ix2 2 q))
          (if r.val = 0 then (if i = 0#32 then 0 else U ⟨15, by omega⟩) else U ⟨15 + r.val, by omega⟩)
          (U ⟨16 + r.val, by omega⟩)
          (if h : r.val = 1023 then (if i = 7#32 then 0 else U ⟨0, by omega⟩) else U ⟨17 + r.val, by omega⟩) := by
  unfold k0_pay17 k0_pay16
  dsimp only
  generalize k0_pay15 g A B C n X wc wv = W at hU
  generalize k0_pay14 g A B C n X = xn
  unfold k0_pay1
  pointwise [taps, mat]
  simp only [hU, select_eq]
  have hr : r.val < 1024 := r.isLt
  refine congrArg₂ (· * ·) rfl (congrArg₂ (· + ·) (congrArg₂ (· + ·) (congrArg₂ (· * ·) rfl ?_) rfl) (congrArg₂ (· * ·) rfl ?_))
  · by_cases h : r.val = 0
    · rw [dif_pos (by omega), if_pos h]
      refine congrArg (fun z => if i = 0#32 then (0 : EReal) else z) (congrArg U (Fin.ext ?_))
      show 8 + (8 + r.val + 1040 - 1) % 1040 = 15
      omega
    · rw [dif_neg (by omega), dif_pos (by omega), if_neg h]
      refine congrArg U (Fin.ext ?_)
      show 16 + ((8 + r.val + 1040 - 1) % 1040 - 8) = 15 + r.val
      omega
  · by_cases h : r.val = 1023
    · rw [dif_neg (by omega), dif_neg (by omega), dif_pos h]
      refine congrArg (fun z => if i = 7#32 then (0 : EReal) else z) (congrArg U (Fin.ext ?_))
      show (8 + r.val + 1040 - 1039) % 1040 - 8 - 1024 = 0
      omega
    · rw [dif_neg (by omega), dif_pos (by omega), dif_neg h]
      refine congrArg U (Fin.ext ?_)
      show 16 + ((8 + r.val + 1040 - 1039) % 1040 - 8) = 17 + r.val
      omega

end

/-- The block written at a point, from the blocks it reads: `i` the block's place in its sequence, `X` the block's rows, `P` and
    `N` the eight rows before and after, `g` the gains, `kk` the taps, `w` the projection. -/
def outBlk (i : BitVec 32) (X : Vec Ideal S1x1024x1024 .f32) (P N : Vec Ideal S1x8x1024 .f32) (g : Vec Ideal S4x1024 .f32)
    (kk : Vec Ideal S2x3x1024 .f32) (w : Vec Ideal S1024x3072 .bf16) : Vec Ideal S1x1024x1024 .bf16 :=
  k0_pay1 (k0_pay10 (View.ld kk (Rect.unit ![1, 0, 0] ![1, 3, 1024] inb_S2x3x1024_S1x3x1024_1_0_0)))
    (stack (View.ld g (Rect.unit ![2, 0] ![1, 1024] inb_S4x1024_S1x1024_2_0)) N P X)
    (k0_pay16 (View.ld g (Rect.unit ![2, 0] ![1, 1024] inb_S4x1024_S1x1024_2_0))
      (k0_pay11 (View.ld g (Rect.unit ![2, 0] ![1, 1024] inb_S4x1024_S1x1024_2_0)) N) (k0_pay12 P) (k0_pay13 P)
      (Scalar.ofBits .f32 0x44800000#32) X (View.ld w (Rect.unit ![0, 1024] ![1024, 1024] inb_S1024x3072_S1024x1024_0_1024))
      (View.ld w (Rect.unit ![0, 2048] ![1024, 1024] inb_S1024x3072_S1024x1024_0_2048)))
    (k0_pay17 i (View.ld g (Rect.unit ![2, 0] ![1, 1024] inb_S4x1024_S1x1024_2_0))
      (k0_pay11 (View.ld g (Rect.unit ![2, 0] ![1, 1024] inb_S4x1024_S1x1024_2_0)) N) (k0_pay12 P) (k0_pay13 P)
      (Scalar.ofBits .f32 0x44800000#32) X (View.ld w (Rect.unit ![0, 1024] ![1024, 1024] inb_S1024x3072_S1024x1024_0_1024))
      (View.ld w (Rect.unit ![0, 2048] ![1024, 1024] inb_S1024x3072_S1024x1024_0_2048)))
    1#32 (View.ld w (Rect.unit ![0, 0] ![1024, 1024] inb_S1024x3072_S1024x1024_0_0))

/-- The block's entries: the gate times the three taps around the row, the neighbours of the first and the last row coming from
    the rows before and after the block, or being zero at the ends of the sequence. -/
theorem out_at (i : BitVec 32) (X : Vec Ideal S1x1024x1024 .f32) (P N : Vec Ideal S1x8x1024 .f32) (g : Vec Ideal S4x1024 .f32)
    (kk : Vec Ideal S2x3x1024 .f32) (w : Vec Ideal S1024x3072 .bf16) (r q : Fin 1024) :
    outBlk i X P N g kk w (ix3 0 r q)
      = taps (gate (rms (fun k => X (ix3 0 r k)) (fun k => g (ix2 2 k))) (fun k l => w (ix2 k l)) q)
          (kk (ix3 1 0 q)) (kk (ix3 1 1 q)) (kk (ix3 1 2 q))
          (if h : r.val = 0 then (if i = 0#32 then 0 else gated (rms (fun k => P (ix3 0 7 k)) (fun k => g (ix2 2 k))) (fun k l => w (ix2 k l)) q)
            else gated (rms (fun k => X (ix3 0 ⟨r.val - 1, by omega⟩ k)) (fun k => g (ix2 2 k))) (fun k l => w (ix2 k l)) q)
          (gated (rms (fun k => X (ix3 0 r k)) (fun k => g (ix2 2 k))) (fun k l => w (ix2 k l)) q)
          (if h : r.val = 1023 then (if i = 7#32 then 0 else gated (rms (fun k => N (ix3 0 0 k)) (fun k => g (ix2 2 k))) (fun k l => w (ix2 k l)) q)
            else gated (rms (fun k => X (ix3 0 ⟨r.val + 1, by omega⟩ k)) (fun k => g (ix2 2 k))) (fun k l => w (ix2 k l)) q) := by
  have hg : ∀ k : Fin 1024, View.ld g (Rect.unit ![2, 0] ![1, 1024] inb_S4x1024_S1x1024_2_0) (ix2 0 k) = g (ix2 2 k) := by
    intro k
    pointwise []
  have hk : ∀ a : Fin 3, k0_pay10 (View.ld kk (Rect.unit ![1, 0, 0] ![1, 3, 1024] inb_S2x3x1024_S1x3x1024_1_0_0)) (ix2 a q) = kk (ix3 1 a q) := by
    intro a
    pointwise [k0_pay10]
  have h0 : ∀ k l : Fin 1024, View.ld w (Rect.unit ![0, 0] ![1024, 1024] inb_S1024x3072_S1024x1024_0_0) (ix2 k l)
      = w (ix2 k ⟨l.val, by omega⟩) := by
    intro k l
    pointwise []
  have h1 : ∀ k l : Fin 1024, View.ld w (Rect.unit ![0, 1024] ![1024, 1024] inb_S1024x3072_S1024x1024_0_1024) (ix2 k l)
      = w (ix2 k ⟨1024 + l.val, by omega⟩) := by
    intro k l
    pointwise []
  have h2 : ∀ k l : Fin 1024, View.ld w (Rect.unit ![0, 2048] ![1024, 1024] inb_S1024x3072_S1024x1024_0_2048) (ix2 k l)
      = w (ix2 k ⟨2048 + l.val, by omega⟩) := by
    intro k l
    pointwise []
  unfold outBlk
  refine (taps_at _ _ _ _ _ _ _ _ _ i _ r q _ (fun j => gated_at _ _ _ _ _ _ _ _ j q)).trans ?_
  have hM : ∀ (r' : Fin 1024) (j : Fin 1040), j.val = 16 + r'.val →
      (fun k => stack (View.ld g (Rect.unit ![2, 0] ![1, 1024] inb_S4x1024_S1x1024_2_0)) N P X (ix2 j k))
        = rms (fun k => X (ix3 0 r' k)) (fun k => g (ix2 2 k)) := by
    intro r' j hj
    funext k
    rw [show j = ⟨16 + r'.val, by omega⟩ from Fin.ext hj, normed_main]
    simp only [hg]
  have hP : (fun k => stack (View.ld g (Rect.unit ![2, 0] ![1, 1024] inb_S4x1024_S1x1024_2_0)) N P X
      (ix2 ⟨15, by omega⟩ k)) = rms (fun k => P (ix3 0 7 k)) (fun k => g (ix2 2 k)) := by
    funext k
    refine (normed_prev _ N P X 7 k).trans ?_
    simp only [hg]
  have hN : (fun k => stack (View.ld g (Rect.unit ![2, 0] ![1, 1024] inb_S4x1024_S1x1024_2_0)) N P X
      (ix2 ⟨0, by omega⟩ k)) = rms (fun k => N (ix3 0 0 k)) (fun k => g (ix2 2 k)) := by
    funext k
    refine (normed_next _ N P X 0 k).trans ?_
    simp only [hg]
  have hr : r.val < 1024 := r.isLt
  rw [hM r ⟨16 + r.val, by omega⟩ rfl, hP, hN]
  have hG : ∀ v : Fin 1024 → EReal,
      mat v (fun k l => View.ld w (Rect.unit ![0, 1024] ![1024, 1024] inb_S1024x3072_S1024x1024_0_1024) (ix2 k l)) q
        * mat v (fun k l => View.ld w (Rect.unit ![0, 2048] ![1024, 1024] inb_S1024x3072_S1024x1024_0_2048) (ix2 k l)) q
        = gated v (fun k l => w (ix2 k l)) q := by
    intro v
    simp only [gated, mat, h1, h2]
  have hB : ∀ v : Fin 1024 → EReal,
      mat v (fun k l => View.ld w (Rect.unit ![0, 0] ![1024, 1024] inb_S1024x3072_S1024x1024_0_0) (ix2 k l)) q
        = gate v (fun k l => w (ix2 k l)) q := by
    intro v
    simp only [gate, mat, h0]
  simp only [hG, hB, hk]
  congr 1
  · by_cases h : r.val = 0
    · rw [if_pos h, dif_pos h]
    · rw [if_neg h, dif_neg h, hM ⟨r.val - 1, by omega⟩ ⟨15 + r.val, by omega⟩ (by show 15 + r.val = 16 + (r.val - 1); omega)]
  · by_cases h : r.val = 1023
    · rw [dif_pos h, dif_pos h]
    · rw [dif_neg h, dif_neg h, hM ⟨r.val + 1, by omega⟩ ⟨17 + r.val, by omega⟩ (by show 17 + r.val = 16 + (r.val + 1); omega)]

end Cert.Kernel5Ideal.ConvCast

end
-- ==== Proof.ConvCastRef.lean ====
/- What the plain convolution program of layer 2 computes: each element of the mixer's result is the gate of its row times the three taps
   around the row, with zero beyond the ends of the sequence. -/
module

public import proofs.«01_k».proof.Proof.Gen.Reference5Ideal.Read
public import proofs.«01_k».proof.Proof.Rows
public import Idealize.ShloMosaic.Lib.Pointwise

@[expose] public section

set_option maxRecDepth 16384

noncomputable section

open Idealize.ShloMosaic Idealize.ShloMosaic.TcCoe Idealize.SL.Sem

namespace Cert.Reference5Ideal.ConvCast

open Cert.Reference5Ideal Cert.Reference5Ideal.Gen Cert.Reference5Ideal.Read Cert.Rows

variable (x : FVec Ideal S2x8192x1024 .f32) (w : FVec Ideal S2x1024x3072 .f32) (kk : FVec Ideal S2x3x1024 .f32) (g : FVec Ideal S4x1024 .f32)

/-- The normalised row. -/
theorem norm_ref (b : Fin 2) (s : Fin 8192) (q : Fin 1024) :
    val_main_v14 (F := Ideal) x g (ix3 b s q) = rms (fun k => x (ix3 b s k)) (fun k => g (ix2 2 k)) q := by
  pointwise [val_main_v14, val_main_v13, val_main_v12, val_main_v11, val_main_v10, val_main_v9, val_main_v8, val_main_v7, val_main_cst_1,
    val_main_v6, val_main_v5, val_main_cst_0, val_main_v4, val_main_v3, val_main_cst, val_main_v2, val_main_v1, val_main_v0, rms]

/-- The gate. -/
theorem gate_ref (b : Fin 2) (s : Fin 8192) (q : Fin 1024) :
    val_main_v20 (F := Ideal) x w g (ix3 b s q)
      = gate (rms (fun k => x (ix3 b s k)) (fun k => g (ix2 2 k))) (fun k l => w (ix3 1 k l)) q := by
  pointwise [val_main_v20, val_main_v19, val_main_v18, val_main_v17, norm_ref, gate, mat]

/-- The gated row. -/
theorem gated_ref (b : Fin 2) (s : Fin 8192) (q : Fin 1024) :
    val_main_v23 (F := Ideal) x w g (ix3 b s q)
      = gated (rms (fun k => x (ix3 b s k)) (fun k => g (ix2 2 k))) (fun k l => w (ix3 1 k l)) q := by
  pointwise [val_main_v23, val_main_v22, val_main_v21, val_main_v19, val_main_v18, val_main_v17, norm_ref, gated, mat]

/-- The padding value. -/
theorem pad_zero : (FloatOps.sitofp FTy.f32 (0#32) : Ideal .f32) = (0 : EReal) := by
  simp [FloatOps.sitofp]

/-- The mixer's result. -/
theorem mixer_ref (b : Fin 2) (s : Fin 8192) (q : Fin 1024) :
    val_main_v62 (F := Ideal) x w kk g (ix3 b s q)
      = taps (gate (rms (fun k => x (ix3 b s k)) (fun k => g (ix2 2 k))) (fun k l => w (ix3 1 k l)) q)
          (kk (ix3 1 0 q)) (kk (ix3 1 1 q)) (kk (ix3 1 2 q))
          (if h : s.val = 0 then 0
            else gated (rms (fun k => x (ix3 b ⟨s.val - 1, by omega⟩ k)) (fun k => g (ix2 2 k))) (fun k l => w (ix3 1 k l)) q)
          (gated (rms (fun k => x (ix3 b s k)) (fun k => g (ix2 2 k))) (fun k l => w (ix3 1 k l)) q)
          (if h : s.val = 8191 then 0
            else gated (rms (fun k => x (ix3 b ⟨s.val + 1, by omega⟩ k)) (fun k => g (ix2 2 k))) (fun k l => w (ix3 1 k l)) q) := by
  pointwise [val_main_v62, val_main_v61, val_main_v44, val_main_v43, val_main_v42, val_main_v41, val_main_v40, val_main_v39, val_main_v38,
    val_main_v37, val_main_v36, val_main_v35, val_main_v34, val_main_v33, val_main_v32, val_main_v31, val_main_v30, val_main_v29, val_main_v28,
    val_main_v27, val_main_v26, val_main_v25, val_main_v24, val_main_call0_v0, val_main_c, val_main_v16, val_main_v15, gate_ref, gated_ref, taps]
  have hs : s.val < 8192 := s.isLt
  refine congrArg₂ (· * ·) rfl (congrArg₂ (· + ·) (congrArg₂ (· + ·) (congrArg₂ (· * ·) rfl ?_) rfl) (congrArg₂ (· * ·) rfl ?_))
  · by_cases h : s.val = 0
    · rw [dif_neg (by omega), dif_pos h, pad_zero]
    · rw [dif_pos (by omega), dif_neg h]
  · by_cases h : s.val = 8191
    · rw [dif_neg (by omega), dif_pos h, pad_zero]
    · rw [dif_pos (by omega), dif_neg h]
      simp only [show 2 + s.val - 1 = s.val + 1 by omega]

end Cert.Reference5Ideal.ConvCast

end
-- ==== Proof.ConvCastArray.lean ====
/- The mixer array of layer 2's convolution call. Each block read is rows of the call's argument: the block's own rows, and the eight rows on
   either side, which stay inside the sequence at its ends. The sixteen blocks tile the array, which is what the plain program
   computes. -/
module

public import proofs.«01_k».proof.Proof.ConvCastBlock
public import proofs.«01_k».proof.Proof.ConvCastRef
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel5Ideal.ConvCast

open Cert.Kernel5Ideal Cert.Kernel5Ideal.Gen Cert.Rows Cert.Blocks

/-- Where each window's block sits at each of the sixteen points. -/
theorem idx : ∀ t : Fin cfg0.N, win0_0.index t = ![t.val / 8, t.val % 8, 0]
    ∧ win0_1.index t = ![t.val / 8, t.val % 8 * 128 - 1, 0] ∧ win0_2.index t = ![t.val / 8, min ((t.val % 8 + 1) * 128) 1023, 0]
    ∧ win0_3.index t = ![0, 0] ∧ win0_4.index t = ![0, 0] ∧ win0_5.index t = ![0, 0, 0] ∧ win0_14.index t = ![t.val / 8, t.val % 8, 0] :=
  (by decide +kernel : ∀ t : Fin grid0.N, _)

/-- The block's place in its sequence. -/
theorem place : ∀ t : Fin cfg0.N, (grid0.coords t 1).val = t.val % 8 := (by decide +kernel : ∀ t : Fin grid0.N, _)

variable (m : (ℓ : Loc nD τ sig) → Buf (Elt Ideal) ℓ) (c : Dev nD) (t : Fin cfg0.N)

/-- Row `p` of the block at point `t`. -/
theorem x_at (p : Fin 1024) (b : Fin 2) (s : Fin 8192) (hb : (b : ℕ) = t.val / 8) (hs : (s : ℕ) = t.val % 8 * 1024 + p) :
    (fun k : Fin 1024 => (iblk m c 0 t : FVec Ideal S1x1024x1024 .f32) (ix3 0 p k))
      = fun k => (m ((c : Thread nD τ).loc main_arg0) : FVec Ideal S2x8192x1024 .f32) (ix3 b s k) := by
  funext k
  blk_point [iblk, V, idx t]

/-- The row before the block, in the sequence's interior. -/
theorem prev_at (b : Fin 2) (s : Fin 8192) (hb : (b : ℕ) = t.val / 8) (h0 : ¬ t.val % 8 = 0) (hs : (s : ℕ) = t.val % 8 * 1024 - 1) :
    (fun k : Fin 1024 => (iblk m c 1 t : FVec Ideal S1x8x1024 .f32) (ix3 0 7 k))
      = fun k => (m ((c : Thread nD τ).loc main_arg0) : FVec Ideal S2x8192x1024 .f32) (ix3 b s k) := by
  funext k
  blk_point [iblk, V, idx t]

/-- The row after the block, in the sequence's interior. -/
theorem next_at (b : Fin 2) (s : Fin 8192) (hb : (b : ℕ) = t.val / 8) (h0 : ¬ t.val % 8 = 7) (hs : (s : ℕ) = (t.val % 8 + 1) * 1024) :
    (fun k : Fin 1024 => (iblk m c 2 t : FVec Ideal S1x8x1024 .f32) (ix3 0 0 k))
      = fun k => (m ((c : Thread nD τ).loc main_arg0) : FVec Ideal S2x8192x1024 .f32) (ix3 b s k) := by
  funext k
  blk_point [iblk, V, idx t]

/-- The gains of layer 2. -/
theorem g_at : (fun k : Fin 1024 => (iblk m c 3 t : FVec Ideal S4x1024 .f32) (ix2 2 k))
      = fun k => (m ((c : Thread nD τ).loc main_arg5) : FVec Ideal S4x1024 .f32) (ix2 2 k) := by
  funext k
  blk_point [iblk, V, idx t]

/-- The taps of layer 2. -/
theorem k_at (a : Fin 3) (q : Fin 1024) : (iblk m c 5 t : FVec Ideal S2x3x1024 .f32) (ix3 1 a q)
      = (m ((c : Thread nD τ).loc main_arg2) : FVec Ideal S2x3x1024 .f32) (ix3 1 a q) := by
  blk_point [iblk, V, idx t]

/-- The projection of layer 2, whole at every point. -/
theorem w_at : (fun (k : Fin 1024) (l : Fin 3072) => (iblk m c 4 t : FVec Ideal S1024x3072 .bf16) (ix2 k l))
      = fun k l => (m ((c : Thread nD τ).loc main_arg1) : FVec Ideal S2x1024x3072 .f32) (ix3 1 k l) := by
  funext k l
  blk_point [iblk, V, idx t]

/-- What a point leaves in the mixer's buffer. -/
theorem block : (dats m 0 c).after 14 t
    = outBlk (BitVec.ofNat 32 (grid0.coords t 1)) (iblk m c 0 t) (iblk m c 1 t) (iblk m c 2 t) (iblk m c 3 t) (iblk m c 5 t) (iblk m c 4 t) := by
  rw [after0_14]
  unfold_out out0_14
  frame_out
  rfl

/-- The plain program's mixer result over this program's arguments. -/
abbrev plain : FVec Ideal S2x8192x1024 .bf16 :=
  Cert.Reference5Ideal.Read.val_main_v62 (F := Ideal) (m ((c : Thread nD τ).loc main_arg0)) (m ((c : Thread nD τ).loc main_arg1))
    (m ((c : Thread nD τ).loc main_arg2)) (m ((c : Thread nD τ).loc main_arg5))

/-- Element `(p, q)` of the block of point `t` is the plain program's element at sequence `t / 8`, row `t % 8 * 1024 + p`. -/
theorem point (p q : Fin 1024) (b : Fin 2) (s : Fin 8192) (hb : (b : ℕ) = t.val / 8) (hs : (s : ℕ) = t.val % 8 * 1024 + p) :
    outBlk (BitVec.ofNat 32 (grid0.coords t 1)) (iblk m c 0 t) (iblk m c 1 t) (iblk m c 2 t) (iblk m c 3 t) (iblk m c 5 t) (iblk m c 4 t) (ix3 0 p q)
      = plain m c (ix3 b s q) := by
  have ht : t.val < 16 := lt_of_lt_of_eq t.isLt N_0
  have hp : p.val < 1024 := p.isLt
  have hs' : s.val < 8192 := s.isLt
  rw [plain, Cert.Reference5Ideal.ConvCast.mixer_ref, out_at, place t]
  have e0 : (BitVec.ofNat 32 (t.val % 8) = 0#32) ↔ t.val % 8 = 0 := word_eq _ 0 (by omega) (by omega)
  have e7 : (BitVec.ofNat 32 (t.val % 8) = 7#32) ↔ t.val % 8 = 7 := word_eq _ 7 (by omega) (by omega)
  simp only [e0, e7]
  rw [x_at m c t p b s hb hs, w_at m c t, g_at m c t, k_at m c t, k_at m c t, k_at m c t]
  congr 1
  · by_cases h : p.val = 0
    · by_cases h0 : t.val % 8 = 0
      · rw [dif_pos h, if_pos h0, dif_pos (by omega)]
      · rw [dif_pos h, if_neg h0, dif_neg (by omega),
          prev_at m c t b ⟨s.val - 1, by omega⟩ hb h0 (by show s.val - 1 = _; omega)]
    · rw [dif_neg h, dif_neg (by omega),
        x_at m c t ⟨p.val - 1, by omega⟩ b ⟨s.val - 1, by omega⟩ hb (by show s.val - 1 = _ + (p.val - 1); omega)]
  · by_cases h : p.val = 1023
    · by_cases h7 : t.val % 8 = 7
      · rw [dif_pos h, if_pos h7, dif_pos (by omega)]
      · rw [dif_pos h, if_neg h7, dif_neg (by omega),
          next_at m c t b ⟨s.val + 1, by omega⟩ hb h7 (by show s.val + 1 = _; omega)]
    · rw [dif_neg h, dif_neg (by omega),
        x_at m c t ⟨p.val + 1, by omega⟩ b ⟨s.val + 1, by omega⟩ hb (by show s.val + 1 = _ + (p.val + 1); omega)]

/-- The mixer array after the run is the plain program's. -/
theorem final : (dats m 0 c).arrAt 14 cfg0.N = plain m c := by
  refine (dats m 0 c).arrAt_eq_of_covers 14 _ (by decide +kernel) fun t _ y => ?_
  blk_simp
  rw [block]
  idx_vars y
  have ht : t.val < 16 := lt_of_lt_of_eq t.isLt N_0
  have hy : y0 = 0 := Subsingleton.elim _ _
  subst hy
  refine (point m c t y1 y2 ⟨t.val / 8, by omega⟩ ⟨t.val % 8 * 1024 + y1, by omega⟩ rfl rfl).trans (congrArg _ ?_)
  blk_ext [idx t]

end Cert.Kernel5Ideal.ConvCast

end
-- ==== Proof.ConvCastCasts.lean ====
/- The eight side results of layer 2's convolution call: the weights that later calls read, a block of rows carried at each point. -/
module

public import proofs.«01_k».proof.Proof.Gen.Kernel5Ideal.Value
public import Idealize.ShloMosaic.Lib.Pipeline.ValueKit
public import Idealize.ShloMosaic.Lib.Pointwise
public import proofs.«01_k».proof.Proof.Gen.Reference5Ideal.Read
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel5Ideal.ConvCast

open Cert.Kernel5Ideal Cert.Kernel5Ideal.Gen Cert.Reference5Ideal.Read

/-- Where the carried weights' blocks sit at each point: rows of block `t` of their layer. -/
theorem idx_in : ∀ t : Fin cfg0.N, win0_6.index t = ![1, t.val, 0]
    ∧ win0_7.index t = ![2, t.val, 0]
    ∧ win0_8.index t = ![2, t.val, 0]
    ∧ win0_9.index t = ![2, t.val, 0]
    ∧ win0_10.index t = ![1, t.val, 0]
    ∧ win0_11.index t = ![3, t.val, 0]
    ∧ win0_12.index t = ![3, t.val, 0]
    ∧ win0_13.index t = ![3, t.val, 0] :=
  (by decide +kernel : ∀ t : Fin grid0.N, _)

/-- Where the side results' blocks sit: rows of block `t`. -/
theorem idx_out : ∀ t : Fin cfg0.N, win0_15.index t = ![t.val, 0]
    ∧ win0_16.index t = ![t.val, 0]
    ∧ win0_17.index t = ![t.val, 0]
    ∧ win0_18.index t = ![t.val, 0]
    ∧ win0_19.index t = ![t.val, 0]
    ∧ win0_20.index t = ![t.val, 0]
    ∧ win0_21.index t = ![t.val, 0]
    ∧ win0_22.index t = ![t.val, 0] :=
  (by decide +kernel : ∀ t : Fin grid0.N, _)

variable (m : (ℓ : Loc nD τ sig) → Buf (Elt Ideal) ℓ) (c : Dev nD)

/-- The output projection of layer 2. -/
theorem final_15 : (dats m 0 c).arrAt 15 cfg0.N = val_main_v63 (F := Ideal) (m ((c : Thread nD τ).loc main_arg3)) := by
  refine (dats m 0 c).arrAt_eq_of_covers 15 _ (by decide +kernel) fun t _ y => ?_
  blk_simp
  rw [after0_15]
  unfold_out out0_15
  frame_out
  idx_vars y
  pointwise [k0_pay2, val_main_v63, val_main_v46, val_main_v45]
  blk_point [iblk, V, idx_in t, idx_out t]

/-- The gate projection of layer 2. -/
theorem final_16 : (dats m 0 c).arrAt 16 cfg0.N = val_main_v64 (F := Ideal) (m ((c : Thread nD τ).loc main_arg6)) := by
  refine (dats m 0 c).arrAt_eq_of_covers 16 _ (by decide +kernel) fun t _ y => ?_
  blk_simp
  rw [after0_16]
  unfold_out out0_16
  frame_out
  idx_vars y
  pointwise [k0_pay3, val_main_v64, val_main_v48, val_main_v47]
  blk_point [iblk, V, idx_in t, idx_out t]

/-- The up projection of layer 2. -/
theorem final_17 : (dats m 0 c).arrAt 17 cfg0.N = val_main_v65 (F := Ideal) (m ((c : Thread nD τ).loc main_arg7)) := by
  refine (dats m 0 c).arrAt_eq_of_covers 17 _ (by decide +kernel) fun t _ y => ?_
  blk_simp
  rw [after0_17]
  unfold_out out0_17
  frame_out
  idx_vars y
  pointwise [k0_pay4, val_main_v65, val_main_v50, val_main_v49]
  blk_point [iblk, V, idx_in t, idx_out t]

/-- The down projection of layer 2. -/
theorem final_18 : (dats m 0 c).arrAt 18 cfg0.N = val_main_v66 (F := Ideal) (m ((c : Thread nD τ).loc main_arg8)) := by
  refine (dats m 0 c).arrAt_eq_of_covers 18 _ (by decide +kernel) fun t _ y => ?_
  blk_simp
  rw [after0_18]
  unfold_out out0_18
  frame_out
  idx_vars y
  pointwise [k0_pay5, val_main_v66, val_main_v52, val_main_v51]
  blk_point [iblk, V, idx_in t, idx_out t]

/-- The output projection of layer 3. -/
theorem final_19 : (dats m 0 c).arrAt 19 cfg0.N = val_main_v67 (F := Ideal) (m ((c : Thread nD τ).loc main_arg4)) := by
  refine (dats m 0 c).arrAt_eq_of_covers 19 _ (by decide +kernel) fun t _ y => ?_
  blk_simp
  rw [after0_19]
  unfold_out out0_19
  frame_out
  idx_vars y
  pointwise [k0_pay6, val_main_v67, val_main_v54, val_main_v53]
  blk_point [iblk, V, idx_in t, idx_out t]

/-- The gate projection of layer 3. -/
theorem final_20 : (dats m 0 c).arrAt 20 cfg0.N = val_main_v68 (F := Ideal) (m ((c : Thread nD τ).loc main_arg6)) := by
  refine (dats m 0 c).arrAt_eq_of_covers 20 _ (by decide +kernel) fun t _ y => ?_
  blk_simp
  rw [after0_20]
  unfold_out out0_20
  frame_out
  idx_vars y
  pointwise [k0_pay7, val_main_v68, val_main_v56, val_main_v55]
  blk_point [iblk, V, idx_in t, idx_out t]

/-- The up projection of layer 3. -/
theorem final_21 : (dats m 0 c).arrAt 21 cfg0.N = val_main_v69 (F := Ideal) (m ((c : Thread nD τ).loc main_arg7)) := by
  refine (dats m 0 c).arrAt_eq_of_covers 21 _ (by decide +kernel) fun t _ y => ?_
  blk_simp
  rw [after0_21]
  unfold_out out0_21
  frame_out
  idx_vars y
  pointwise [k0_pay8, val_main_v69, val_main_v58, val_main_v57]
  blk_point [iblk, V, idx_in t, idx_out t]

/-- The down projection of layer 3. -/
theorem final_22 : (dats m 0 c).arrAt 22 cfg0.N = val_main_v70 (F := Ideal) (m ((c : Thread nD τ).loc main_arg8)) := by
  refine (dats m 0 c).arrAt_eq_of_covers 22 _ (by decide +kernel) fun t _ y => ?_
  blk_simp
  rw [after0_22]
  unfold_out out0_22
  frame_out
  idx_vars y
  pointwise [k0_pay9, val_main_v70, val_main_v60, val_main_v59]
  blk_point [iblk, V, idx_in t, idx_out t]

end Cert.Kernel5Ideal.ConvCast

end
-- ==== Proof.ConvCastClaim.lean ====
/- The convolution call of layer 2 and its plain program end with equal results. -/
module

public import proofs.«01_k».proof.Defs
public import proofs.«01_k».proof.Proof.ConvCastArray
public import proofs.«01_k».proof.Proof.ConvCastCasts
public import proofs.«01_k».proof.Proof.Gen.Kernel5Ideal
public import proofs.«01_k».proof.Proof.Gen.Reference5Ideal
public import Idealize.ShloMosaic.Lib.Claim

@[expose] public section

set_option maxRecDepth 16384

noncomputable section

open Idealize.ShloMosaic Idealize.ShloMosaic.TcCoe Idealize.SL.Sem

namespace Cert.Proof

/-- From agreeing arguments the call's nine result arrays and the plain program's are equal over the ideal numbers: the mixer's rows
    are the gated three-tap rows, and the eight others are the weights themselves. -/
theorem algebraic_conv_cast : Cert.algebraic_Kernel5Ideal_Reference5Ideal := by
  pair_intro
  · run_from Cert.Kernel5Ideal.Value.run_blocks m g
  · run_from Cert.Reference5Ideal.Value.run m' g'
    · rw [Cert.Reference5Ideal.Read.val_main_v62_eq, (hagree c).1, (hagree c).2.1, (hagree c).2.2.1, (hagree c).2.2.2.2.2.1]
      exact (Cert.Kernel5Ideal.ConvCast.final m c).symm
    · exact (Cert.Kernel5Ideal.ConvCast.final_15 m c).symm
    · exact (Cert.Kernel5Ideal.ConvCast.final_16 m c).symm
    · exact (Cert.Kernel5Ideal.ConvCast.final_17 m c).symm
    · exact (Cert.Kernel5Ideal.ConvCast.final_18 m c).symm
    · exact (Cert.Kernel5Ideal.ConvCast.final_19 m c).symm
    · exact (Cert.Kernel5Ideal.ConvCast.final_20 m c).symm
    · exact (Cert.Kernel5Ideal.ConvCast.final_21 m c).symm
    · exact (Cert.Kernel5Ideal.ConvCast.final_22 m c).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel4Ideal.Value
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel5Ideal.Value
public import proofs.«01_k».proof.Proof.Frames
public import proofs.«01_k».proof.Proof.FfnClaim
public import proofs.«01_k».proof.Proof.ConvClaim
public import proofs.«01_k».proof.Proof.FourierClaim
public import proofs.«01_k».proof.Proof.FfnMidClaim
public import proofs.«01_k».proof.Proof.ConvCastClaim
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts, Cert.Reference5Ideal.Gen.facts,
  fun m ρ _ => Cert.Kernel.Gen.frame m ρ, fun m ρ _ => Cert.KernelIdeal.Gen.frame m ρ, frame_conv_plain,
  fun m ρ _ => Cert.Kernel2.Gen.frame m ρ, fun m ρ _ => Cert.Kernel2Ideal.Gen.frame m ρ, frame_ffn_plain,
  fun m ρ _ => Cert.Kernel3.Gen.frame m ρ, fun m ρ _ => Cert.Kernel3Ideal.Gen.frame m ρ, frame_fourier_plain,
  fun m ρ _ => Cert.Kernel4.Gen.frame m ρ, fun m ρ _ => Cert.Kernel4Ideal.Gen.frame m ρ, frame_ffn_mid_plain,
  fun m ρ _ => Cert.Kernel5.Gen.frame m ρ, fun m ρ _ => Cert.Kernel5Ideal.Gen.frame m ρ, frame_conv_cast_plain,
  trivial, algebraic_conv, trivial, algebraic_ffn, trivial, algebraic_fourier, trivial, algebraic_ffn_mid,
  trivial, algebraic_conv_cast⟩

end Cert.Proof

end
